-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x64 : Shape := ⟨3, ![4, 2048, 64]⟩
abbrev S4x8192x64 : Shape := ⟨3, ![4, 8192, 64]⟩
abbrev S4x65536 : Shape := ⟨2, ![4, 65536]⟩
abbrev S_ : Shape := ⟨0, ![]⟩

class Facts : Prop where
  bcast_S_S4x2048x64 : S_.BroadcastsInDim S4x2048x64 (![] : Fin 0 → Fin S4x2048x64.rank)
  reducesTo_S4x2048x64_S_d0_1_2 : S4x2048x64.ReducesTo [0, 1, 2] S_
  h_S_ : 0 < S_.numel
  bcast_S_S4x8192x64 : S_.BroadcastsInDim S4x8192x64 (![] : Fin 0 → Fin S4x8192x64.rank)
  reducesTo_S4x8192x64_S_d0_1_2 : S4x8192x64.ReducesTo [0, 1, 2] S_

variable [Facts]

def fn {F : FTy → Type} [FloatOps F] (main_arg0 : FVec F S4x2048x64 .f32) (main_arg1 : FVec F S4x8192x64 .f32) (main_arg2 : FVec F S4x8192x64 .f32) (main_arg3 : IVec S4x65536 32) : IVec S_ 1 :=
  let main_v0 : FVec F S4x2048x64 .f32 := Host.absf main_arg0
  let main_cst : FVec F S_ .f32 := constant S_ .f32 0x7F800000#32
  let main_v1 : FVec F S4x2048x64 .f32 := broadcastInDim S4x2048x64 ![] bcast_S_S4x2048x64 main_cst
  let main_v2 : IVec S4x2048x64 1 := cmpf .olt main_v0 main_v1
  let main_c : IVec S_ 1 := constantI S_ 1 1#1
  let main_v3 : IVec S_ 1 := (fun x v => Host.reduce IntOp.andi x v reducesTo_S4x2048x64_S_d0_1_2 h_S_) main_v2 main_c
  let main_v4 : FVec F S4x8192x64 .f32 := Host.absf main_arg1
  let main_cst_0 : FVec F S_ .f32 := constant S_ .f32 0x7F800000#32
  let main_v5 : FVec F S4x8192x64 .f32 := broadcastInDim S4x8192x64 ![] bcast_S_S4x8192x64 main_cst_0
  let main_v6 : IVec S4x8192x64 1 := cmpf .olt main_v4 main_v5
  let main_c_1 : IVec S_ 1 := constantI S_ 1 1#1
  let main_v7 : IVec S_ 1 := (fun x v => Host.reduce IntOp.andi x v reducesTo_S4x8192x64_S_d0_1_2 h_S_) main_v6 main_c_1
  let main_v8 : IVec S_ 1 := andi main_v3 main_v7
  main_v8
-- ==== Kernel.lean ====
abbrev S4x2048x64 : Shape := ⟨3, ![4, 2048, 64]⟩
abbrev S4x8192x64 : Shape := ⟨3, ![4, 8192, 64]⟩
abbrev S4x65536 : Shape := ⟨2, ![4, 65536]⟩
abbrev S4x8192x128 : Shape := ⟨3, ![4, 8192, 128]⟩
abbrev S32768x128 : Shape := ⟨2, ![32768, 128]⟩
abbrev S262144 : Shape := ⟨1, ![262144]⟩
abbrev S262144x128 : Shape := ⟨2, ![262144, 128]⟩
abbrev S8192 : Shape := ⟨1, ![8192]⟩
abbrev S256x128 : Shape := ⟨2, ![256, 128]⟩
abbrev S_ : Shape := ⟨0, ![]⟩
abbrev S16 : Shape := ⟨1, ![16]⟩
abbrev S256 : Shape := ⟨1, ![256]⟩
abbrev S2048x64 : Shape := ⟨2, ![2048, 64]⟩
abbrev S1x2048x64 : Shape := ⟨3, ![1, 2048, 64]⟩
abbrev S8192x128 : Shape := ⟨2, ![8192, 128]⟩
abbrev S64x2048 : Shape := ⟨2, ![64, 2048]⟩
abbrev S1x2048 : Shape := ⟨2, ![1, 2048]⟩
abbrev S512x128 : Shape := ⟨2, ![512, 128]⟩
abbrev S1x128x64 : Shape := ⟨3, ![1, 128, 64]⟩
abbrev S128x64 : Shape := ⟨2, ![128, 64]⟩
abbrev S512x64 : Shape := ⟨2, ![512, 64]⟩
abbrev S128 : Shape := ⟨1, ![128]⟩
abbrev S1x128 : Shape := ⟨2, ![1, 128]⟩
abbrev S64x128 : Shape := ⟨2, ![64, 128]⟩

abbrev nBuf : Table → Nat
  | .hbm => 17
  | .local .tc .vmem => 32
  | .local .scVector .vmem => 4
  | _ => 0

abbrev bufTy : (tb : Table) → Fin (nBuf tb) → BufTy
  | .hbm, ⟨0, _⟩ => ⟨S4x2048x64, .f32⟩
  | .hbm, ⟨1, _⟩ => ⟨S4x8192x64, .f32⟩
  | .hbm, ⟨2, _⟩ => ⟨S4x8192x64, .f32⟩
  | .hbm, ⟨3, _⟩ => ⟨S4x65536, .i32⟩
  | .hbm, ⟨4, _⟩ => ⟨S4x8192x128, .f32⟩
  | .hbm, ⟨5, _⟩ => ⟨S32768x128, .f32⟩
  | .hbm, ⟨6, _⟩ => ⟨S262144, .i32⟩
  | .hbm, ⟨7, _⟩ => ⟨S262144x128, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S2048x64, .f32⟩
  | .hbm, ⟨12, _⟩ => ⟨S1x2048x64, .f32⟩
  | .hbm, ⟨13, _⟩ => ⟨S1x2048x64, .f32⟩
  | .hbm, ⟨14, _⟩ => ⟨S1x2048x64, .f32⟩
  | .hbm, ⟨15, _⟩ => ⟨S1x2048x64, .f32⟩
  | .hbm, ⟨16, _⟩ => ⟨S4x2048x64, .f32⟩
  | .local .tc .vmem, ⟨0, _⟩ => ⟨S1x2048x64, .f32⟩
  | .local .tc .vmem, ⟨1, _⟩ => ⟨S1x2048x64, .f32⟩
  | .local .tc .vmem, ⟨2, _⟩ => ⟨S8192x128, .f32⟩
  | .local .tc .vmem, ⟨3, _⟩ => ⟨S8192x128, .f32⟩
  | .local .tc .vmem, ⟨4, _⟩ => ⟨S2048x64, .f32⟩
  | .local .tc .vmem, ⟨5, _⟩ => ⟨S64x2048, .f32⟩
  | .local .tc .vmem, ⟨6, _⟩ => ⟨S1x2048, .f32⟩
  | .local .tc .vmem, ⟨7, _⟩ => ⟨S1x2048, .f32⟩
  | .local .tc .vmem, ⟨8, _⟩ => ⟨S1x2048x64, .f32⟩
  | .local .tc .vmem, ⟨9, _⟩ => ⟨S1x2048x64, .f32⟩
  | .local .tc .vmem, ⟨10, _⟩ => ⟨S8192x128, .f32⟩
  | .local .tc .vmem, ⟨11, _⟩ => ⟨S8192x128, .f32⟩
  | .local .tc .vmem, ⟨12, _⟩ => ⟨S2048x64, .f32⟩
  | .local .tc .vmem, ⟨13, _⟩ => ⟨S64x2048, .f32⟩
  | .local .tc .vmem, ⟨14, _⟩ => ⟨S1x2048, .f32⟩
  | .local .tc .vmem, ⟨15, _⟩ => ⟨S1x2048, .f32⟩
  | .local .tc .vmem, ⟨16, _⟩ => ⟨S1x2048x64, .f32⟩
  | .local .tc .vmem, ⟨17, _⟩ => ⟨S1x2048x64, .f32⟩
  | .local .tc .vmem, ⟨18, _⟩ => ⟨S8192x128, .f32⟩
  | .local .tc .vmem, ⟨19, _⟩ => ⟨S8192x128, .f32⟩
  | .local .tc .vmem, ⟨20, _⟩ => ⟨S2048x64, .f32⟩
  | .local .tc .vmem, ⟨21, _⟩ => ⟨S64x2048, .f32⟩
  | .local .tc .vmem, ⟨22, _⟩ => ⟨S1x2048, .f32⟩
  | .local .tc .vmem, ⟨23, _⟩ => ⟨S1x2048, .f32⟩
  | .local .tc .vmem, ⟨24, _⟩ => ⟨S1x2048x64, .f32⟩
  | .local .tc .vmem, ⟨25, _⟩ => ⟨S1x2048x64, .f32⟩
  | .local .tc .vmem, ⟨26, _⟩ => ⟨S8192x128, .f32⟩
  | .local .tc .vmem, ⟨27, _⟩ => ⟨S8192x128, .f32⟩
  | .local .tc .vmem, ⟨28, _⟩ => ⟨S2048x64, .f32⟩
  | .local .tc .vmem, ⟨29, _⟩ => ⟨S64x2048, .f32⟩
  | .local .tc .vmem, ⟨30, _⟩ => ⟨S1x2048, .f32⟩
  | .local .tc .vmem, ⟨31, _⟩ => ⟨S1x2048, .f32⟩
  | .local .scVector .vmem, ⟨0, _⟩ => ⟨S8192, .i32⟩
  | .local .scVector .vmem, ⟨1, _⟩ => ⟨S8192, .i32⟩
  | .local .scVector .vmem, ⟨2, _⟩ => ⟨S256x128, .f32⟩
  | .local .scVector .vmem, ⟨3, _⟩ => ⟨S256x128, .f32⟩
  | _, _ => ⟨S4x2048x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v2_scv : Ref sig .scVector := ⟨.hbm, 6, rfl⟩
abbrev main_v1_scv : Ref sig .scVector := ⟨.hbm, 5, rfl⟩
abbrev main_v3_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_scratch0 : Ref sig .tc := ⟨.vmem, 5, rfl⟩
abbrev cc1_scratch1 : Ref sig .tc := ⟨.vmem, 6, rfl⟩
abbrev cc1_scratch2 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_scratch0 : Ref sig .tc := ⟨.vmem, 13, rfl⟩
abbrev cc2_scratch1 : Ref sig .tc := ⟨.vmem, 14, rfl⟩
abbrev cc2_scratch2 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_scratch0 : Ref sig .tc := ⟨.vmem, 21, rfl⟩
abbrev cc3_scratch1 : Ref sig .tc := ⟨.vmem, 22, rfl⟩
abbrev cc3_scratch2 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_scratch0 : Ref sig .tc := ⟨.vmem, 29, rfl⟩
abbrev cc4_scratch1 : Ref sig .tc := ⟨.vmem, 30, rfl⟩
abbrev cc4_scratch2 : Ref sig .tc := ⟨.vmem, 31, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  ![v2.toNat]
@[reducible] def k0_t1_loop : Scf.Loop 32 :=
  let c0_i32_6 : BitVec 32 := 0#32
  let c512_i32 : BitVec 32 := 512#32
  let v21 : BitVec 32 := Scalar.addi c0_i32_6 c512_i32
  let c1_i32_7 : BitVec 32 := 1#32
  ⟨c0_i32_6, v21, c1_i32_7⟩
def k0_off2 (k0_t1 : Fin k0_t1_loop.trips) : Fin 1 → Nat :=
  let c0_i32_6 : BitVec 32 := 0#32
  let c1_i32_7 : BitVec 32 := 1#32
  let arg13 : BitVec 32 := Scf.iv c0_i32_6 c1_i32_7 k0_t1
  let c16_i32 : BitVec 32 := 16#32
  let v310 : BitVec 32 := Scalar.muli arg13 c16_i32
  let v311 : Index := Scalar.indexCast v310
  ![v311.toNat]
def k0_off3 (i : grid0.Coords) (c0_i32_17 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v28 : BitVec 32 := Scalar.addi v2 c0_i32_17
  let c0_i32_18 : BitVec 32 := 0#32
  ![v28.toNat, 0]
abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v726 : BitVec 1 := Scalar.cmpi .eq arg0 c7_i32
  let v727 : BitVec 32 := Scalar.extui v726
  let c0_i32_366 : BitVec 32 := 0#32
  let v728 : BitVec 1 := Scalar.cmpi .ne v727 c0_i32_366
  v728

def cc1_transform_0 (i : grid1.Coords) : Fin 3 → Nat :=
  let arg0 : BitVec 32 := BitVec.ofNat 32 (i 0).val
  let c4_i32 : BitVec 32 := 4#32
  let v0 : BitVec 32 := Scalar.remsi arg0 c4_i32
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![8], ![false]⟩

def k2_cond2 (i : grid2.Coords) : BitVec 1 :=
  let arg0 : BitVec 32 := BitVec.ofNat 32 (i 0).val
  let c7_i32 : BitVec 32 := 7#32
  let v726 : BitVec 1 := Scalar.cmpi .eq arg0 c7_i32
  let v727 : BitVec 32 := Scalar.extui v726
  let c0_i32_366 : BitVec 32 := 0#32
  let v728 : BitVec 1 := Scalar.cmpi .ne v727 c0_i32_366
  v728

def cc2_transform_0 (i : grid2.Coords) : Fin 3 → Nat :=
  let arg0 : BitVec 32 := BitVec.ofNat 32 (i 0).val
  let c4_i32 : BitVec 32 := 4#32
  let v0 : BitVec 32 := Scalar.remsi arg0 c4_i32
  let c0_i32 : BitVec 32 := 0#32
  let c0_i32_0 : BitVec 32 := 0#32
  let c0_i32_1 : BitVec 32 := 0#32
  ![v0.toNat, c0_i32.toNat, c0_i32_0.toNat]

def cc2_transform_1 (i : grid2.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![8], ![false]⟩

def k3_cond2 (i : grid3.Coords) : BitVec 1 :=
  let arg0 : BitVec 32 := BitVec.ofNat 32 (i 0).val
  let c7_i32 : BitVec 32 := 7#32
  let v726 : BitVec 1 := Scalar.cmpi .eq arg0 c7_i32
  let v727 : BitVec 32 := Scalar.extui v726
  let c0_i32_366 : BitVec 32 := 0#32
  let v728 : BitVec 1 := Scalar.cmpi .ne v727 c0_i32_366
  v728

def cc3_transform_0 (i : grid3.Coords) : Fin 3 → Nat :=
  let arg0 : BitVec 32 := BitVec.ofNat 32 (i 0).val
  let c4_i32 : BitVec 32 := 4#32
  let v0 : BitVec 32 := Scalar.remsi arg0 c4_i32
  let c0_i32 : BitVec 32 := 0#32
  let c0_i32_0 : BitVec 32 := 0#32
  let c0_i32_1 : BitVec 32 := 0#32
  ![v0.toNat, c0_i32.toNat, c0_i32_0.toNat]

def cc3_transform_1 (i : grid3.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1x2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S2048x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![8], ![false]⟩

def k4_cond2 (i : grid4.Coords) : BitVec 1 :=
  let arg0 : BitVec 32 := BitVec.ofNat 32 (i 0).val
  let c7_i32 : BitVec 32 := 7#32
  let v726 : BitVec 1 := Scalar.cmpi .eq arg0 c7_i32
  let v727 : BitVec 32 := Scalar.extui v726
  let c0_i32_366 : BitVec 32 := 0#32
  let v728 : BitVec 1 := Scalar.cmpi .ne v727 c0_i32_366
  v728

def cc4_transform_0 (i : grid4.Coords) : Fin 3 → Nat :=
  let arg0 : BitVec 32 := BitVec.ofNat 32 (i 0).val
  let c4_i32 : BitVec 32 := 4#32
  let v0 : BitVec 32 := Scalar.remsi arg0 c4_i32
  let c0_i32 : BitVec 32 := 0#32
  let c0_i32_0 : BitVec 32 := 0#32
  let c0_i32_1 : BitVec 32 := 0#32
  ![v0.toNat, c0_i32.toNat, c0_i32_0.toNat]

def cc4_transform_1 (i : grid4.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1x2048x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S2048x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x2048x64 : Shape := ⟨3, ![4, 2048, 64]⟩
abbrev S4x8192x64 : Shape := ⟨3, ![4, 8192, 64]⟩
abbrev S4x65536 : Shape := ⟨2, ![4, 65536]⟩
abbrev S_ : Shape := ⟨0, ![]⟩
abbrev S1x4x1x2048x1x64 : Shape := ⟨6, ![1, 4, 1, 2048, 1, 64]⟩
abbrev S8x4x1x2048x1x64 : Shape := ⟨6, ![8, 4, 1, 2048, 1, 64]⟩
abbrev S32x2048x64 : Shape := ⟨3, ![32, 2048, 64]⟩
abbrev S4x65536x1 : Shape := ⟨3, ![4, 65536, 1]⟩
abbrev S1 : Shape := ⟨1, ![1]⟩
abbrev S1x1x1 : Shape := ⟨3, ![1, 1, 1]⟩
abbrev S4x65536x64 : Shape := ⟨3, ![4, 65536, 64]⟩
abbrev S4x1024x16x64 : Shape := ⟨4, ![4, 1024, 16, 64]⟩
abbrev S4x1024x64x64 : Shape := ⟨4, ![4, 1024, 64, 64]⟩
abbrev S4x1024x16 : Shape := ⟨3, ![4, 1024, 16]⟩
abbrev S4x1024x16x1 : Shape := ⟨4, ![4, 1024, 16, 1]⟩
abbrev S4x16384x64 : Shape := ⟨3, ![4, 16384, 64]⟩
abbrev S4x16384 : Shape := ⟨2, ![4, 16384]⟩
abbrev S4x8x2048x64 : Shape := ⟨4, ![4, 8, 2048, 64]⟩
abbrev S4x8x2048x1 : Shape := ⟨4, ![4, 8, 2048, 1]⟩
abbrev S4x2048x1 : Shape := ⟨3, ![4, 2048, 1]⟩
abbrev S4x1x2048x1 : Shape := ⟨4, ![4, 1, 2048, 1]⟩

abbrev nBuf : Space → Nat
  | .hbm => 132
  | .vmem => 0
  | .smem => 0
  | _ => 0

abbrev hbmTy0_0 (i : Nat) : BufTy := match i % 128 with
  | 0 => ⟨S4x2048x64, .f32⟩
  | 1 => ⟨S4x8192x64, .f32⟩
  | 2 => ⟨S4x8192x64, .f32⟩
  | 3 => ⟨S4x65536, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S4x65536, .i32⟩
  | 11 => ⟨S4x65536, .i32⟩
  | 12 => ⟨S_, .i32⟩
  | 13 => ⟨S4x65536, .i32⟩
  | 14 => ⟨S4x65536, .i1⟩
  | 15 => ⟨S_, .i32⟩
  | 16 => ⟨S4x65536, .i32⟩
  | 17 => ⟨S4x65536, .i1⟩
  | 18 => ⟨S_, .i32⟩
  | 19 => ⟨S_, .i1⟩
  | 20 => ⟨S4x65536, .i1⟩
  | 21 => ⟨S4x65536, .i1⟩
  | 22 => ⟨S4x65536, .i1⟩
  | 23 => ⟨S4x65536, .i32⟩
  | 24 => ⟨S4x65536, .i32⟩
  | 25 => ⟨S4x65536, .i32⟩
  | 26 => ⟨S1x4x1x2048x1x64, .f32⟩
  | 27 => ⟨S8x4x1x2048x1x64, .f32⟩
  | 28 => ⟨S32x2048x64, .f32⟩
  | 29 => ⟨S4x65536x1, .i32⟩
  | 30 => ⟨S_, .i32⟩
  | 31 => ⟨S4x65536x1, .i32⟩
  | 32 => ⟨S4x65536x1, .i1⟩
  | 33 => ⟨S_, .i32⟩
  | 34 => ⟨S4x65536x1, .i32⟩
  | 35 => ⟨S4x65536x1, .i32⟩
  | 36 => ⟨S4x65536x1, .i32⟩
  | 37 => ⟨S1, .i32⟩
  | 38 => ⟨S_, .i32⟩
  | 39 => ⟨S4x65536x1, .i32⟩
  | 40 => ⟨S4x65536x1, .i1⟩
  | 41 => ⟨S1x1x1, .i32⟩
  | 42 => ⟨S4x65536x1, .i32⟩
  | 43 => ⟨S4x65536x1, .i1⟩
  | 44 => ⟨S4x65536x1, .i1⟩
  | 45 => ⟨S_, .i1⟩
  | 46 => ⟨S4x65536, .i1⟩
  | 47 => ⟨S4x65536x64, .f32⟩
  | 48 => ⟨S4x65536x64, .i1⟩
  | 49 => ⟨S_, .f32⟩
  | 50 => ⟨S4x65536x64, .f32⟩
  | 51 => ⟨S4x65536x64, .f32⟩
  | 52 => ⟨S4x65536x1, .i32⟩
  | 53 => ⟨S_, .i32⟩
  | 54 => ⟨S4x65536x1, .i32⟩
  | 55 => ⟨S4x65536x1, .i1⟩
  | 56 => ⟨S_, .i32⟩
  | 57 => ⟨S4x65536x1, .i32⟩
  | 58 => ⟨S4x65536x1, .i32⟩
  | 59 => ⟨S4x65536x1, .i32⟩
  | 60 => ⟨S1, .i32⟩
  | 61 => ⟨S_, .i32⟩
  | 62 => ⟨S4x65536x1, .i32⟩
  | 63 => ⟨S4x65536x1, .i1⟩
  | 64 => ⟨S1x1x1, .i32⟩
  | 65 => ⟨S4x65536x1, .i32⟩
  | 66 => ⟨S4x65536x1, .i1⟩
  | 67 => ⟨S4x65536x1, .i1⟩
  | 68 => ⟨S_, .i1⟩
  | 69 => ⟨S4x65536, .i1⟩
  | 70 => ⟨S4x65536x64, .f32⟩
  | 71 => ⟨S4x65536x64, .i1⟩
  | 72 => ⟨S_, .f32⟩
  | 73 => ⟨S4x65536x64, .f32⟩
  | 74 => ⟨S4x65536x64, .f32⟩
  | 75 => ⟨S4x1024x16x64, .f32⟩
  | 76 => ⟨S4x1024x64x64, .f32⟩
  | 77 => ⟨S4x1024x64x64, .f32⟩
  | 78 => ⟨S4x1024x16x64, .f32⟩
  | 79 => ⟨S_, .f32⟩
  | 80 => ⟨S4x1024x16, .f32⟩
  | 81 => ⟨S4x1024x16x1, .f32⟩
  | 82 => ⟨S4x1024x16x1, .f32⟩
  | 83 => ⟨S_, .f32⟩
  | 84 => ⟨S4x1024x16x1, .f32⟩
  | 85 => ⟨S4x1024x16x1, .i1⟩
  | 86 => ⟨S_, .f32⟩
  | 87 => ⟨S_, .f32⟩
  | 88 => ⟨S4x1024x16x1, .f32⟩
  | 89 => ⟨S4x1024x16x1, .f32⟩
  | 90 => ⟨S4x1024x16x64, .f32⟩
  | 91 => ⟨S4x1024x16x64, .f32⟩
  | 92 => ⟨S4x1024x16x64, .f32⟩
  | 93 => ⟨S_, .f32⟩
  | 94 => ⟨S4x1024x16, .f32⟩
  | 95 => ⟨S4x1024x16x1, .f32⟩
  | 96 => ⟨S4x1024x16x1, .f32⟩
  | 97 => ⟨S4x1024x16x1, .f32⟩
  | 98 => ⟨S4x1024x16x64, .f32⟩
  | 99 => ⟨S4x1024x16x64, .f32⟩
  | 100 => ⟨S4x1024x16x64, .f32⟩
  | 101 => ⟨S4x1024x16x64, .f32⟩
  | 102 => ⟨S4x16384x64, .f32⟩
  | 103 => ⟨S4x16384, .f32⟩
  | 104 => ⟨S4x8x2048x64, .f32⟩
  | 105 => ⟨S4x8x2048x1, .f32⟩
  | 106 => ⟨S_, .f32⟩
  | 107 => ⟨S4x2048x1, .f32⟩
  | 108 => ⟨S4x1x2048x1, .f32⟩
  | 109 => ⟨S4x1x2048x1, .f32⟩
  | 110 => ⟨S_, .f32⟩
  | 111 => ⟨S4x1x2048x1, .f32⟩
  | 112 => ⟨S4x1x2048x1, .i1⟩
  | 113 => ⟨S_, .f32⟩
  | 114 => ⟨S_, .f32⟩
  | 115 => ⟨S4x1x2048x1, .f32⟩
  | 116 => ⟨S4x1x2048x1, .f32⟩
  | 117 => ⟨S4x8x2048x1, .f32⟩
  | 118 => ⟨S4x8x2048x1, .f32⟩
  | 119 => ⟨S4x8x2048x1, .f32⟩
  | 120 => ⟨S_, .f32⟩
  | 121 => ⟨S4x2048x1, .f32⟩
  | 122 => ⟨S4x1x2048x1, .f32⟩
  | 123 => ⟨S4x1x2048x1, .f32⟩
  | 124 => ⟨S4x1x2048x1, .f32⟩
  | 125 => ⟨S4x8x2048x1, .f32⟩
  | 126 => ⟨S4x8x2048x1, .f32⟩
  | 127 => ⟨S4x8x2048x1, .f32⟩
  | _ => ⟨S4x2048x64, .f32⟩

abbrev hbmTy0_1 (i : Nat) : BufTy := match i % 128 with
  | 0 => ⟨S4x8x2048x64, .f32⟩
  | 1 => ⟨S4x8x2048x64, .f32⟩
  | 2 => ⟨S_, .f32⟩
  | 3 => ⟨S4x2048x64, .f32⟩
  | _ => ⟨S4x2048x64, .f32⟩

abbrev hbmTy (i : Nat) : BufTy := match i / 128 with
  | 0 => hbmTy0_0 i
  | 1 => hbmTy0_1 i
  | _ => ⟨S4x2048x64, .f32⟩

abbrev bufTy : (tb : Table) → Fin (tcTables nBuf tb) → BufTy
  | .hbm, ⟨i, _⟩ => hbmTy i
  | _, _ => ⟨S4x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_c_2 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_c_3 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v5 : Ref sig .tc := ⟨.hbm, 51, rfl⟩
abbrev main_v6 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_1 : Ref sig .tc := ⟨.hbm, 60, rfl⟩
abbrev main_call2_c_2 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_c_3 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_cst : Ref sig .tc := ⟨.hbm, 72, rfl⟩
abbrev main_call2_v14 : Ref sig .tc := ⟨.hbm, 73, rfl⟩
abbrev main_v7 : Ref sig .tc := ⟨.hbm, 74, rfl⟩
abbrev main_v8 : Ref sig .tc := ⟨.hbm, 75, rfl⟩
abbrev main_v9 : Ref sig .tc := ⟨.hbm, 76, rfl⟩
abbrev main_v10 : Ref sig .tc := ⟨.hbm, 77, rfl⟩
abbrev main_v11 : Ref sig .tc := ⟨.hbm, 78, rfl⟩
abbrev main_cst : Ref sig .tc := ⟨.hbm, 79, rfl⟩
abbrev main_v12 : Ref sig .tc := ⟨.hbm, 80, rfl⟩
abbrev main_v13 : Ref sig .tc := ⟨.hbm, 81, rfl⟩
abbrev main_v14 : Ref sig .tc := ⟨.hbm, 82, rfl⟩
abbrev main_cst_0 : Ref sig .tc := ⟨.hbm, 83, rfl⟩
abbrev main_v15 : Ref sig .tc := ⟨.hbm, 84, rfl⟩
abbrev main_v16 : Ref sig .tc := ⟨.hbm, 85, rfl⟩
abbrev main_cst_1 : Ref sig .tc := ⟨.hbm, 86, rfl⟩
abbrev main_call3_v0 : Ref sig .tc := ⟨.hbm, 87, rfl⟩
abbrev main_call3_v1 : Ref sig .tc := ⟨.hbm, 88, rfl⟩
abbrev main_v17 : Ref sig .tc := ⟨.hbm, 89, rfl⟩
abbrev main_v18 : Ref sig .tc := ⟨.hbm, 90, rfl⟩
abbrev main_v19 : Ref sig .tc := ⟨.hbm, 91, rfl⟩
abbrev main_v20 : Ref sig .tc := ⟨.hbm, 92, rfl⟩
abbrev main_cst_2 : Ref sig .tc := ⟨.hbm, 93, rfl⟩
abbrev main_v21 : Ref sig .tc := ⟨.hbm, 94, rfl⟩
abbrev main_v22 : Ref sig .tc := ⟨.hbm, 95, rfl⟩
abbrev main_v23 : Ref sig .tc := ⟨.hbm, 96, rfl⟩
abbrev main_v24 : Ref sig .tc := ⟨.hbm, 97, rfl⟩
abbrev main_v25 : Ref sig .tc := ⟨.hbm, 98, rfl⟩
abbrev main_v26 : Ref sig .tc := ⟨.hbm, 99, rfl⟩
abbrev main_v27 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_cst_3 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_cst_4 : Ref sig .tc := ⟨.hbm, 110, rfl⟩
abbrev main_v36 : Ref sig .tc := ⟨.hbm, 111, rfl⟩
abbrev main_v37 : Ref sig .tc := ⟨.hbm, 112, rfl⟩
abbrev main_cst_5 : Ref sig .tc := ⟨.hbm, 113, rfl⟩
abbrev main_call4_v0 : Ref sig .tc := ⟨.hbm, 114, rfl⟩
abbrev main_call4_v1 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_cst_6 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_cst_7 : Ref sig .tc := ⟨.hbm, 130, rfl⟩
abbrev main_v51 : Ref sig .tc := ⟨.hbm, 131, rfl⟩

abbrev nD : Nat := 1
abbrev τ : Topo := Topo.v7x

variable {F : FTy → Type} [FloatOps F]
-- ==== Proof.KernelIdeal.Setup.lean ====
/-
  The set-up both kernels of the program share: the program as the launch theorem sees it (one SparseCore call and four
  pipelined TensorCore calls), and the ghost state its proof runs over.
-/
module

public import proofs.«01_k».proof.KernelIdeal
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points

@[expose] public section

noncomputable section

namespace Cert.KernelIdeal.Hash

open Cert.KernelIdeal Cert.KernelIdeal.Gen

open Idealize.ShloMosaic
open Idealize.SL Idealize.SL.RA Idealize.SL.BI
open scoped Idealize.SL.BI
open Idealize.SL.BI.BIBase Idealize.SL.Sem
open Idealize.ShloMosaic.SparseCore.Cfg (HIx)
open Idealize.ShloMosaic.Rounds

variable {F : FTy → Type}

/-- The labels under the SparseCore call: the four pipelines'. -/
abbrev ΛP : Labels := Pipeline.Sig Λ₀ (Fin 4) fun p => (pcfgs (F := F) p).Adm
/-- The SparseCore call. -/
abbrev K : SparseCore.Cfg τ sig (ΛP (F := F)) 1 := sc (F := F)
theorem nSub_zero : (K (F := F)).nSub 0 = 16 := rfl
theorem nCore_zero : (K (F := F)).nCore 0 = 2 := rfl
/-- The pipelines' bodies. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch asks of the call's semaphores and of its tiles' shared buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipelines' rounds. -/
abbrev UP : Type := URounds (GSem nD τ sig) Unit
/-- The ghost state: the handshakes' rounds, the pipelines' rounds, the transfers' counters. -/
abbrev UU : Type := UH × (UP × Counters)

local notation "𝕄" => MT nD τ sig (HIx 1) (Elt F) ℕ UU ℕ

/-- Where the handshakes' rounds lie. -/
abbrev EH : Emb UH (MT nD τ sig (HIx 1) (Elt F) ℕ UU ℕ) := embL

end Cert.KernelIdeal.Hash
-- ==== Proof.KernelIdeal.TcStep.lean ====
/-
  One grid point of the attention kernel as a function of what its buffers hold: the block of queries and the block of
  gathered rows read, and the running maximum, the running sum of weights and the running weighted sum of values, tile by
  tile of 128 queries.
-/
module

public import proofs.«01_k».proof.Proof.KernelIdeal.Setup
public import Idealize.ShloMosaic.Lib.Pointwise

@[expose] public section

noncomputable section

namespace Cert.KernelIdeal.Hash

open Cert.KernelIdeal Cert.KernelIdeal.Gen
open Idealize.ShloMosaic
open Idealize.SL Idealize.SL.Sem

variable {F : FTy → Type} [FloatOps F]

/-- Which entries of a 512 by 128 tile of products count: a key and a query of the same bucket. -/
def diag : IVec S512x128 1 :=
  k1_pay9 k1_pay5 (iota .tc S512x128 32 [1] iota_S512x128_d1_w32) 16#32 k1_pay6 k1_pay7 k1_pay8

/-- A tile's products of keys and queries, minus infinity off its diagonal blocks. -/
def tileS (q : Vec F S1x128x64 .f32) (k : Vec F S512x64 .f32) : FVec F S512x128 .f32 := k1_pay21 diag q k

/-- Each query's largest product of the tile. -/
def tileMax (q : Vec F S1x128x64 .f32) (k : Vec F S512x64 .f32) : FVec F S1x128 .f32 := k1_pay22 diag q k

/-- The tile's weights. -/
def tileP (q : Vec F S1x128x64 .f32) (k : Vec F S512x64 .f32) : FVec F S512x128 .f32 := k1_pay23 diag q k

/-- Each query's sum of weights of the tile. -/
def tileSum (q : Vec F S1x128x64 .f32) (k : Vec F S512x64 .f32) : FVec F S1x128 .f32 := k1_pay24 diag q k

/-- Each query's weighted sum of the tile's values. -/
def tileO (q : Vec F S1x128x64 .f32) (k v : Vec F S512x64 .f32) : FVec F S64x128 .f32 := k1_pay25 diag q k v

/-- The running maximum after the tile. -/
def newM (q : Vec F S1x128x64 .f32) (k : Vec F S512x64 .f32) (mo : Vec F S1x128 .f32) : FVec F S1x128 .f32 :=
  maximumf mo (tileMax q k)

/-- The running maximum after the tile, as stored. -/
def tileM (q : Vec F S1x128x64 .f32) (k : Vec F S512x64 .f32) (mo : Vec F S1x128 .f32) : Vec F S1x128 .f32 :=
  shapeCast S1x128 (newM q k mo) shapeCasts_S1x128_S1x128

/-- How much the running sums shrink. -/
def alpha (q : Vec F S1x128x64 .f32) (k : Vec F S512x64 .f32) (mo : Vec F S1x128 .f32) : FVec F S1x128 .f32 :=
  exp (subf mo (newM q k mo))

/-- How much the tile's own sums shrink. -/
def beta (q : Vec F S1x128x64 .f32) (k : Vec F S512x64 .f32) (mo : Vec F S1x128 .f32) : FVec F S1x128 .f32 :=
  exp (subf (tileMax q k) (newM q k mo))

/-- The running sum of weights after the tile. -/
def tileL (q : Vec F S1x128x64 .f32) (k : Vec F S512x64 .f32) (mo lo : Vec F S1x128 .f32) : Vec F S1x128 .f32 :=
  shapeCast S1x128 (addf (mulf lo (alpha q k mo)) (mulf (tileSum q k) (beta q k mo))) shapeCasts_S1x128_S1x128

/-- The running weighted sum of values after the tile. -/
def tileA (q : Vec F S1x128x64 .f32) (k v : Vec F S512x64 .f32) (mo : Vec F S1x128 .f32) (ao : Vec F S64x128 .f32) :
    Vec F S64x128 .f32 :=
  shapeCast S64x128 (addf (mulf ao (broadcastTo S64x128 (alpha q k mo) broadcasts_S1x128_S64x128))
    (mulf (tileO q k v) (broadcastTo S64x128 (beta q k mo) broadcasts_S1x128_S64x128))) shapeCasts_S64x128_S64x128

/-! ## The tiles of the blocks -/

theorem inbQ (t : Fin 16) : ∀ a, (![0, 128 * t.val, 0] : Fin 3 → Nat) a + S1x128x64.size a ≤ S1x2048x64.size a := by
  revert t; decide
theorem inbK (t : Fin 16) : ∀ a, (![512 * t.val, 0] : Fin 2 → Nat) a + S512x64.size a ≤ S8192x128.size a := by
  revert t; decide
theorem inbV (t : Fin 16) : ∀ a, (![512 * t.val, 64] : Fin 2 → Nat) a + S512x64.size a ≤ S8192x128.size a := by
  revert t; decide
theorem inbR (t : Fin 16) : ∀ a, (![0, 128 * t.val] : Fin 2 → Nat) a + S1x128.size a ≤ S1x2048.size a := by
  revert t; decide
theorem inbA (t : Fin 16) : ∀ a, (![0, 128 * t.val] : Fin 2 → Nat) a + S64x128.size a ≤ S64x2048.size a := by
  revert t; decide

/-- The queries of tile `t`. -/
abbrev rQ (t : Fin 16) : Rect S1x2048x64 := Rect.unit (s := S1x2048x64) ![0, 128 * t.val, 0] S1x128x64.size (inbQ t)
/-- The keys of tile `t`. -/
abbrev rK (t : Fin 16) : Rect S8192x128 := Rect.unit (s := S8192x128) ![512 * t.val, 0] S512x64.size (inbK t)
/-- The values of tile `t`. -/
abbrev rV (t : Fin 16) : Rect S8192x128 := Rect.unit (s := S8192x128) ![512 * t.val, 64] S512x64.size (inbV t)
/-- The running maxima, or sums of weights, of tile `t`. -/
abbrev rR (t : Fin 16) : Rect S1x2048 := Rect.unit (s := S1x2048) ![0, 128 * t.val] S1x128.size (inbR t)
/-- The running weighted sums of tile `t`. -/
abbrev rA (t : Fin 16) : Rect S64x2048 := Rect.unit (s := S64x2048) ![0, 128 * t.val] S64x128.size (inbA t)

/-- What a rectangle of whole contents `x` reads. -/
abbrev at_ {s : Shape} (x : Vec F s .f32) (r : Rect s) : Vec F r.shape .f32 := fun j => x (r.emb j)

/-- The running maxima of tile `t` after the point. -/
def pM (x0 : Vec F S1x2048x64 .f32) (x1 : Vec F S8192x128 .f32) (xm : Vec F S1x2048 .f32) (t : Fin 16) : Vec F S1x128 .f32 :=
  tileM (at_ x0 (rQ t)) (at_ x1 (rK t)) (at_ xm (rR t))
/-- The running sums of weights of tile `t` after the point. -/
def pL (x0 : Vec F S1x2048x64 .f32) (x1 : Vec F S8192x128 .f32) (xm xl : Vec F S1x2048 .f32) (t : Fin 16) : Vec F S1x128 .f32 :=
  tileL (at_ x0 (rQ t)) (at_ x1 (rK t)) (at_ xm (rR t)) (at_ xl (rR t))
/-- The running weighted sums of tile `t` after the point. -/
def pA (x0 : Vec F S1x2048x64 .f32) (x1 : Vec F S8192x128 .f32) (xm : Vec F S1x2048 .f32) (xa : Vec F S64x2048 .f32) (t : Fin 16) :
    Vec F S64x128 .f32 :=
  tileA (at_ x0 (rQ t)) (at_ x1 (rK t)) (at_ x1 (rV t)) (at_ xm (rR t)) (at_ xa (rA t))

/-- The tile a column of the scratch belongs to. -/
def tileOf (n : Fin 2048) : Fin 16 := ⟨n.val / 128, by omega⟩

/-- The column within its tile. -/
def laneOf (n : Fin 2048) : Fin 128 := ⟨n.val % 128, Nat.mod_lt _ (by decide)⟩

/-- The running maxima after the point. -/
def stepM (x0 : Vec F S1x2048x64 .f32) (x1 : Vec F S8192x128 .f32) (xm : Vec F S1x2048 .f32) : Vec F S1x2048 .f32 :=
  fun i => pM x0 x1 xm (tileOf (i 1)) (ix2 (0 : Fin 1) (laneOf (i 1)))
/-- The running sums of weights after the point. -/
def stepL (x0 : Vec F S1x2048x64 .f32) (x1 : Vec F S8192x128 .f32) (xm xl : Vec F S1x2048 .f32) : Vec F S1x2048 .f32 :=
  fun i => pL x0 x1 xm xl (tileOf (i 1)) (ix2 (0 : Fin 1) (laneOf (i 1)))
/-- The running weighted sums after the point. -/
def stepA (x0 : Vec F S1x2048x64 .f32) (x1 : Vec F S8192x128 .f32) (xm : Vec F S1x2048 .f32) (xa : Vec F S64x2048 .f32) :
    Vec F S64x2048 .f32 :=
  fun i => pA x0 x1 xm xa (tileOf (i 1)) (ix2 (n0 := 64) (i 0) (laneOf (i 1)))

/-- The scratch a first point starts from. -/
def initM : Vec F S1x2048 .f32 := k1_pay2
def initL : Vec F S1x2048 .f32 := k1_pay3
def initA : Vec F S64x2048 .f32 := k1_pay4

/-- What a last point writes out. -/
def outOf (xa : Vec F S64x2048 .f32) (xl : Vec F S1x2048 .f32) : Vec F S2048x64 .f32 := k1_pay1 xa xl

theorem stepM_emb (x0 : Vec F S1x2048x64 .f32) (x1 : Vec F S8192x128 .f32) (xm : Vec F S1x2048 .f32) (t : Fin 16)
    (x : S1x128.Idx) : stepM x0 x1 xm ((rR t).emb x) = pM x0 x1 xm t x := by
  have h1 : (x 1).val < 128 := (x 1).isLt
  have h0 : (x 0).val < 1 := (x 0).isLt
  have e : ((rR t).emb x 1).val = 128 * t.val + (x 1).val := by simp [Rect.emb, Rect.unit]
  have ht : tileOf ((rR t).emb x 1) = t := Fin.ext (by show ((rR t).emb x 1).val / 128 = t.val; rw [e]; omega)
  unfold stepM; rw [ht]; congr 1
  funext a; refine Fin.ext ?_
  fin_cases a
  · show 0 = (x 0).val; omega
  · show ((rR t).emb x 1).val % 128 = (x 1).val; rw [e]; omega

theorem stepL_emb (x0 : Vec F S1x2048x64 .f32) (x1 : Vec F S8192x128 .f32) (xm xl : Vec F S1x2048 .f32) (t : Fin 16)
    (x : S1x128.Idx) : stepL x0 x1 xm xl ((rR t).emb x) = pL x0 x1 xm xl t x := by
  have h1 : (x 1).val < 128 := (x 1).isLt
  have h0 : (x 0).val < 1 := (x 0).isLt
  have e : ((rR t).emb x 1).val = 128 * t.val + (x 1).val := by simp [Rect.emb, Rect.unit]
  have ht : tileOf ((rR t).emb x 1) = t := Fin.ext (by show ((rR t).emb x 1).val / 128 = t.val; rw [e]; omega)
  unfold stepL; rw [ht]; congr 1
  funext a; refine Fin.ext ?_
  fin_cases a
  · show 0 = (x 0).val; omega
  · show ((rR t).emb x 1).val % 128 = (x 1).val; rw [e]; omega

theorem stepA_emb (x0 : Vec F S1x2048x64 .f32) (x1 : Vec F S8192x128 .f32) (xm : Vec F S1x2048 .f32) (xa : Vec F S64x2048 .f32)
    (t : Fin 16) (x : S64x128.Idx) : stepA x0 x1 xm xa ((rA t).emb x) = pA x0 x1 xm xa t x := by
  have h1 : (x 1).val < 128 := (x 1).isLt
  have e : ((rA t).emb x 1).val = 128 * t.val + (x 1).val := by simp [Rect.emb, Rect.unit]
  have e0 : ((rA t).emb x 0).val = (x 0).val := by simp [Rect.emb, Rect.unit]
  have ht : tileOf ((rA t).emb x 1) = t := Fin.ext (by show ((rA t).emb x 1).val / 128 = t.val; rw [e]; omega)
  unfold stepA; rw [ht]; congr 1
  funext a; refine Fin.ext ?_
  fin_cases a
  · exact e0
  · show ((rA t).emb x 1).val % 128 = (x 1).val; rw [e]; omega

end Cert.KernelIdeal.Hash
-- ==== Proof.KernelIdeal.TcBody.lean ====
/-
  The attention kernel's body at one grid point: from its blocks and scratch at any contents it leaves the scratch at the
  step of `TcStep`, restarted at the first point, and at the last point writes the quotient out.
-/
module

public import proofs.«01_k».proof.Proof.KernelIdeal.TcStep
public import Idealize.ShloMosaic.Lib.Pipeline.ReadBack
public import Idealize.ShloMosaic.Lib.Ring
public import Idealize.ShloMosaic.Lib.Pipeline.FrameBody

@[expose] public section

set_option maxRecDepth 16384

noncomputable section

namespace Cert.KernelIdeal.Hash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]

local notation "𝕄" => MT nD τ sig (HIx 1) (Elt F) ℕ UU ℕ

/-- The condition under which a point restarts the scratch. -/
abbrev first (i : grid1.Coords) : Prop :=
  Scalar.cmpi .ne (Scalar.extui (Scalar.cmpi .eq (BitVec.ofNat 32 (i 0).val) 0#32) : BitVec 32) 0#32 = 1#1

/-- What the first part of the body hands on: the coordinate and the parts of `diag`. -/
abbrev part1Val (i : grid1.Coords) : Σ' (arg0 : BitVec 32) (v27 : IVec S512x128 32) (v28 : IVec S512x128 32) (c16_i32 : BitVec 32) (v30 : IVec S512x128 32) (v37 : IVec S512x128 32), IVec S512x128 32 :=
  ⟨BitVec.ofNat 32 (i 0).val, k1_pay5, iota .tc S512x128 32 [1] iota_S512x128_d1_w32, 16#32, k1_pay6, k1_pay7, k1_pay8⟩

/-- A rectangle at offset zero of the buffer's own extents is the identity on indices. -/
theorem unit_zero_emb {s : Shape} (off : Fin s.rank → Nat) (h : ∀ a, off a = 0) (inb : ∀ a, off a + s.size a ≤ s.size a) (x : s.Idx) :
    (Rect.unit (s := s) off s.size inb).emb x = x := by
  funext a; refine Fin.ext ?_
  simp [Rect.emb, Rect.unit, h]

/-- A buffer written whole reads as what was written. -/
theorem read_writes_unit_zero {κ : Kind} {sp : Space} {s : Shape} (v : View sig κ sp s .f32) (f : v.ty.Contents (Elt F))
    (off : Fin s.rank → Nat) (h : ∀ a, off a = 0) (inb : ∀ a, off a + s.size a ≤ s.size a) (x : Vec F s .f32) :
    v.read (Elt F) (v.writes (Elt F) f [⟨Rect.unit (s := s) off s.size inb, x⟩]) = x := by
  funext y
  refine View.read_writes_apply_of_pieces v f x _ ?_ y ⟨_, List.mem_cons_self, ?_⟩
  · intro p hp z
    obtain rfl := List.mem_singleton.1 hp
    exact congrArg x (unit_zero_emb off h inb z).symm
  · show y ∈ (Rect.unit (s := s) off s.size inb).set
    exact Rect.mem_set_unit.2 fun a => ⟨by rw [h]; exact Nat.zero_le _, by rw [h, Nat.zero_add]; exact (y a).isLt⟩

section Run

variable (c : Dev nD) (i : grid1.Coords) (arg1 : Memref sig .tc .vmem S1x2048x64 .f32) (harg1 : arg1.IsWhole) (arg2 : Memref sig .tc .vmem S8192x128 .f32) (harg2 : arg2.IsWhole) (arg3 : Memref sig .tc .vmem S2048x64 .f32) (harg3 : arg3.IsWhole) (arg4 : Memref sig .tc .vmem S64x2048 .f32) (harg4 : arg4.IsWhole) (arg5 : Memref sig .tc .vmem S1x2048 .f32) (harg5 : arg5.IsWhole) (arg6 : Memref sig .tc .vmem S1x2048 .f32) (harg6 : arg6.IsWhole)

theorem part1_first (hc : first i) (E : Set ℕ) (xa : Vec F S64x2048 .f32) (xm xl : Vec F S1x2048 .f32) :
    (iprop(owns (c : Thread nD τ) arg4 fullShare xa ∗ owns (c : Thread nD τ) arg5 fullShare xm ∗ owns (c : Thread nD τ) arg6 fullShare xl) : sProp 𝕄)
      ⊢ wp frame (wpE (defs₀ (F := F)) Variants.none c none) E (k1_part1 i arg1 harg1 arg2 harg2 arg3 harg3 arg4 harg4 arg5 harg5 arg6 harg6)
          (fun r => iprop(⌜r = part1Val i⌝ ∗ owns (c : Thread nD τ) arg4 fullShare (initA : Vec F S64x2048 .f32) ∗ owns (c : Thread nD τ) arg5 fullShare (initM : Vec F S1x2048 .f32) ∗ owns (c : Thread nD τ) arg6 fullShare (initL : Vec F S1x2048 .f32))) := by
  rw [k1_part1_eq_skeleton]; unfold k1_part1_skel owns
  iintro ⟨⟨%f0, %hf0, H0⟩, ⟨%f1, %hf1, H1⟩, ⟨%f2, %hf2, H2⟩⟩
  sl_exec (disch := sl_exact hc)
  sl_step
  isplitr; · ipureintro; rfl
  isplitl [H0]
  · iexists _; isplitr; swap; · iexact H0
    ipureintro; exact read_writes_unit_zero _ _ _ (by decide) _ _
  isplitl [H1]
  · iexists _; isplitr; swap; · iexact H1
    ipureintro; exact read_writes_unit_zero _ _ _ (by decide) _ _
  iexists _; isplitr; swap; · iexact H2
  ipureintro; exact read_writes_unit_zero _ _ _ (by decide) _ _

theorem part1_later (hc : ¬first i) (E : Set ℕ) (xa : Vec F S64x2048 .f32) (xm xl : Vec F S1x2048 .f32) :
    (iprop(owns (c : Thread nD τ) arg4 fullShare xa ∗ owns (c : Thread nD τ) arg5 fullShare xm ∗ owns (c : Thread nD τ) arg6 fullShare xl) : sProp 𝕄)
      ⊢ wp frame (wpE (defs₀ (F := F)) Variants.none c none) E (k1_part1 i arg1 harg1 arg2 harg2 arg3 harg3 arg4 harg4 arg5 harg5 arg6 harg6)
          (fun r => iprop(⌜r = part1Val i⌝ ∗ owns (c : Thread nD τ) arg4 fullShare xa ∗ owns (c : Thread nD τ) arg5 fullShare xm ∗ owns (c : Thread nD τ) arg6 fullShare xl)) := by
  rw [k1_part1_eq_skeleton]; unfold k1_part1_skel owns
  iintro ⟨⟨%f0, %hf0, H0⟩, ⟨%f1, %hf1, H1⟩, ⟨%f2, %hf2, H2⟩⟩
  sl_exec (disch := sl_exact hc)
  sl_step
  isplitr; · ipureintro; rfl
  isplitl [H0]
  · iexists _; isplitr; swap; · iexact H0
    ipureintro; exact hf0
  isplitl [H1]
  · iexists _; isplitr; swap; · iexact H1
    ipureintro; exact hf1
  iexists _; isplitr; swap; · iexact H2
  ipureintro; exact hf2

/-- The scratch a point works on: the one it found, or the restarted one. -/
def fromM (i : grid1.Coords) (xm : Vec F S1x2048 .f32) : Vec F S1x2048 .f32 := if first i then initM else xm
def fromL (i : grid1.Coords) (xl : Vec F S1x2048 .f32) : Vec F S1x2048 .f32 := if first i then initL else xl
def fromA (i : grid1.Coords) (xa : Vec F S64x2048 .f32) : Vec F S64x2048 .f32 := if first i then initA else xa

theorem part1_run (E : Set ℕ) (xa : Vec F S64x2048 .f32) (xm xl : Vec F S1x2048 .f32) :
    (iprop(owns (c : Thread nD τ) arg4 fullShare xa ∗ owns (c : Thread nD τ) arg5 fullShare xm ∗ owns (c : Thread nD τ) arg6 fullShare xl) : sProp 𝕄)
      ⊢ wp frame (wpE (defs₀ (F := F)) Variants.none c none) E (k1_part1 i arg1 harg1 arg2 harg2 arg3 harg3 arg4 harg4 arg5 harg5 arg6 harg6)
          (fun r => iprop(⌜r = part1Val i⌝ ∗ owns (c : Thread nD τ) arg4 fullShare (fromA i xa) ∗ owns (c : Thread nD τ) arg5 fullShare (fromM i xm) ∗ owns (c : Thread nD τ) arg6 fullShare (fromL i xl))) := by
  by_cases hc : first i
  · simp only [fromA, fromM, fromL, if_pos hc]
    exact part1_first c i arg1 harg1 arg2 harg2 arg3 harg3 arg4 harg4 arg5 harg5 arg6 harg6 hc E xa xm xl
  · simp only [fromA, fromM, fromL, if_neg hc]
    exact part1_later c i arg1 harg1 arg2 harg2 arg3 harg3 arg4 harg4 arg5 harg5 arg6 harg6 hc E xa xm xl

set_option maxHeartbeats 1400000 in
theorem part20_run (E : Set ℕ) (x0 : Vec F S1x2048x64 .f32) (x1 : Vec F S8192x128 .f32) (xa : Vec F S64x2048 .f32) (xm xl : Vec F S1x2048 .f32) :
    (iprop(owns (c : Thread nD τ) arg1 fullShare x0 ∗ owns (c : Thread nD τ) arg2 fullShare x1
        ∗ owns (c : Thread nD τ) arg4 fullShare xa ∗ owns (c : Thread nD τ) arg5 fullShare xm ∗ owns (c : Thread nD τ) arg6 fullShare xl) : sProp 𝕄)
      ⊢ wp frame (wpE (defs₀ (F := F)) Variants.none c none) E (k1_part20 i arg1 harg1 arg2 harg2 arg3 harg3 arg4 harg4 arg5 harg5 arg6 harg6)
          (fun _ => iprop(owns (c : Thread nD τ) arg1 fullShare x0 ∗ owns (c : Thread nD τ) arg2 fullShare x1
            ∗ owns (c : Thread nD τ) arg4 fullShare (stepA x0 x1 (fromM i xm) (fromA i xa))
            ∗ owns (c : Thread nD τ) arg5 fullShare (stepM x0 x1 (fromM i xm))
            ∗ owns (c : Thread nD τ) arg6 fullShare (stepL x0 x1 (fromM i xm) (fromL i xl)))) := by
  rw [k1_part20_eq_skeleton]; unfold k1_part20_skel
  rw [wp_bind]
  iintro ⟨H0, H1, HA, HM, HL⟩
  ihave Hw := (part1_run c i arg1 harg1 arg2 harg2 arg3 harg3 arg4 harg4 arg5 harg5 arg6 harg6 E xa xm xl) $$ [HA HM HL]
  · isplitl [HA]; · iexact HA
    isplitl [HM]; · iexact HM
    iexact HL
  ihave Hww := (wp_wand _ _ _) $$ Hw
  iapply Hww
  iintro %r ⟨%hr, HA, HM, HL⟩
  subst hr
  generalize fromM i xm = ym
  generalize fromL i xl = yl
  generalize fromA i xa = ya
  simp only [k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton]
  unfold owns
  icases H0 with ⟨%f0, %hf0, H0⟩
  icases H1 with ⟨%f1, %hf1, H1⟩
  icases HA with ⟨%fa, %hfa, HA⟩
  icases HM with ⟨%fm, %hfm, HM⟩
  icases HL with ⟨%fl, %hfl, HL⟩
  subst hf0 hf1 hfa hfm hfl
  sl_exec
  sl_step
  isplitl [H0]
  · iexists _; isplitr; swap; · iexact H0
    ipureintro; rfl
  isplitl [H1]
  · iexists _; isplitr; swap; · iexact H1
    ipureintro; rfl
  isplitl [HA]
  · iexists _; isplitr; swap; · iexact HA
    ipureintro
    funext y
    refine View.read_writes_apply_of_pieces _ _ (stepA _ _ _ _) _ (View.PiecesOf.mem ?_) y ?_
    · refine ⟨?_, ?_, ?_, ?_, ?_, ?_, ?_, ?_, ?_, ?_, ?_, ?_, ?_, ?_, ?_, ?_, trivial⟩
      · exact fun x => Eq.trans (b := pA _ _ _ _ ⟨15, by decide⟩ x) (by sl_kernel_rfl) (stepA_emb _ _ _ _ ⟨15, by decide⟩ x).symm
      · exact fun x => Eq.trans (b := pA _ _ _ _ ⟨14, by decide⟩ x) (by sl_kernel_rfl) (stepA_emb _ _ _ _ ⟨14, by decide⟩ x).symm
      · exact fun x => Eq.trans (b := pA _ _ _ _ ⟨13, by decide⟩ x) (by sl_kernel_rfl) (stepA_emb _ _ _ _ ⟨13, by decide⟩ x).symm
      · exact fun x => Eq.trans (b := pA _ _ _ _ ⟨12, by decide⟩ x) (by sl_kernel_rfl) (stepA_emb _ _ _ _ ⟨12, by decide⟩ x).symm
      · exact fun x => Eq.trans (b := pA _ _ _ _ ⟨11, by decide⟩ x) (by sl_kernel_rfl) (stepA_emb _ _ _ _ ⟨11, by decide⟩ x).symm
      · exact fun x => Eq.trans (b := pA _ _ _ _ ⟨10, by decide⟩ x) (by sl_kernel_rfl) (stepA_emb _ _ _ _ ⟨10, by decide⟩ x).symm
      · exact fun x => Eq.trans (b := pA _ _ _ _ ⟨9, by decide⟩ x) (by sl_kernel_rfl) (stepA_emb _ _ _ _ ⟨9, by decide⟩ x).symm
      · exact fun x => Eq.trans (b := pA _ _ _ _ ⟨8, by decide⟩ x) (by sl_kernel_rfl) (stepA_emb _ _ _ _ ⟨8, by decide⟩ x).symm
      · exact fun x => Eq.trans (b := pA _ _ _ _ ⟨7, by decide⟩ x) (by sl_kernel_rfl) (stepA_emb _ _ _ _ ⟨7, by decide⟩ x).symm
      · exact fun x => Eq.trans (b := pA _ _ _ _ ⟨6, by decide⟩ x) (by sl_kernel_rfl) (stepA_emb _ _ _ _ ⟨6, by decide⟩ x).symm
      · exact fun x => Eq.trans (b := pA _ _ _ _ ⟨5, by decide⟩ x) (by sl_kernel_rfl) (stepA_emb _ _ _ _ ⟨5, by decide⟩ x).symm
      · exact fun x => Eq.trans (b := pA _ _ _ _ ⟨4, by decide⟩ x) (by sl_kernel_rfl) (stepA_emb _ _ _ _ ⟨4, by decide⟩ x).symm
      · exact fun x => Eq.trans (b := pA _ _ _ _ ⟨3, by decide⟩ x) (by sl_kernel_rfl) (stepA_emb _ _ _ _ ⟨3, by decide⟩ x).symm
      · exact fun x => Eq.trans (b := pA _ _ _ _ ⟨2, by decide⟩ x) (by sl_kernel_rfl) (stepA_emb _ _ _ _ ⟨2, by decide⟩ x).symm
      · exact fun x => Eq.trans (b := pA _ _ _ _ ⟨1, by decide⟩ x) (by sl_kernel_rfl) (stepA_emb _ _ _ _ ⟨1, by decide⟩ x).symm
      · exact fun x => Eq.trans (b := pA _ _ _ _ ⟨0, by decide⟩ x) (by sl_kernel_rfl) (stepA_emb _ _ _ _ ⟨0, by decide⟩ x).symm
    · exact View.cover_of_tiledL (s := S64x2048) _ S64x128.size (by sl_kernel_rfl) y
  isplitl [HM]
  · iexists _; isplitr; swap; · iexact HM
    ipureintro
    funext y
    refine View.read_writes_apply_of_pieces _ _ (stepM _ _ _) _ (View.PiecesOf.mem ?_) y ?_
    · refine ⟨?_, ?_, ?_, ?_, ?_, ?_, ?_, ?_, ?_, ?_, ?_, ?_, ?_, ?_, ?_, ?_, trivial⟩
      · exact fun x => Eq.trans (b := pM _ _ _ ⟨15, by decide⟩ x) (by sl_kernel_rfl) (stepM_emb _ _ _ ⟨15, by decide⟩ x).symm
      · exact fun x => Eq.trans (b := pM _ _ _ ⟨14, by decide⟩ x) (by sl_kernel_rfl) (stepM_emb _ _ _ ⟨14, by decide⟩ x).symm
      · exact fun x => Eq.trans (b := pM _ _ _ ⟨13, by decide⟩ x) (by sl_kernel_rfl) (stepM_emb _ _ _ ⟨13, by decide⟩ x).symm
      · exact fun x => Eq.trans (b := pM _ _ _ ⟨12, by decide⟩ x) (by sl_kernel_rfl) (stepM_emb _ _ _ ⟨12, by decide⟩ x).symm
      · exact fun x => Eq.trans (b := pM _ _ _ ⟨11, by decide⟩ x) (by sl_kernel_rfl) (stepM_emb _ _ _ ⟨11, by decide⟩ x).symm
      · exact fun x => Eq.trans (b := pM _ _ _ ⟨10, by decide⟩ x) (by sl_kernel_rfl) (stepM_emb _ _ _ ⟨10, by decide⟩ x).symm
      · exact fun x => Eq.trans (b := pM _ _ _ ⟨9, by decide⟩ x) (by sl_kernel_rfl) (stepM_emb _ _ _ ⟨9, by decide⟩ x).symm
      · exact fun x => Eq.trans (b := pM _ _ _ ⟨8, by decide⟩ x) (by sl_kernel_rfl) (stepM_emb _ _ _ ⟨8, by decide⟩ x).symm
      · exact fun x => Eq.trans (b := pM _ _ _ ⟨7, by decide⟩ x) (by sl_kernel_rfl) (stepM_emb _ _ _ ⟨7, by decide⟩ x).symm
      · exact fun x => Eq.trans (b := pM _ _ _ ⟨6, by decide⟩ x) (by sl_kernel_rfl) (stepM_emb _ _ _ ⟨6, by decide⟩ x).symm
      · exact fun x => Eq.trans (b := pM _ _ _ ⟨5, by decide⟩ x) (by sl_kernel_rfl) (stepM_emb _ _ _ ⟨5, by decide⟩ x).symm
      · exact fun x => Eq.trans (b := pM _ _ _ ⟨4, by decide⟩ x) (by sl_kernel_rfl) (stepM_emb _ _ _ ⟨4, by decide⟩ x).symm
      · exact fun x => Eq.trans (b := pM _ _ _ ⟨3, by decide⟩ x) (by sl_kernel_rfl) (stepM_emb _ _ _ ⟨3, by decide⟩ x).symm
      · exact fun x => Eq.trans (b := pM _ _ _ ⟨2, by decide⟩ x) (by sl_kernel_rfl) (stepM_emb _ _ _ ⟨2, by decide⟩ x).symm
      · exact fun x => Eq.trans (b := pM _ _ _ ⟨1, by decide⟩ x) (by sl_kernel_rfl) (stepM_emb _ _ _ ⟨1, by decide⟩ x).symm
      · exact fun x => Eq.trans (b := pM _ _ _ ⟨0, by decide⟩ x) (by sl_kernel_rfl) (stepM_emb _ _ _ ⟨0, by decide⟩ x).symm
    · exact View.cover_of_tiledL (s := S1x2048) _ S1x128.size (by sl_kernel_rfl) y
  · iexists _; isplitr; swap; · iexact HL
    ipureintro
    funext y
    refine View.read_writes_apply_of_pieces _ _ (stepL _ _ _ _) _ (View.PiecesOf.mem ?_) y ?_
    · refine ⟨?_, ?_, ?_, ?_, ?_, ?_, ?_, ?_, ?_, ?_, ?_, ?_, ?_, ?_, ?_, ?_, trivial⟩
      · exact fun x => Eq.trans (b := pL _ _ _ _ ⟨15, by decide⟩ x) (by sl_kernel_rfl) (stepL_emb _ _ _ _ ⟨15, by decide⟩ x).symm
      · exact fun x => Eq.trans (b := pL _ _ _ _ ⟨14, by decide⟩ x) (by sl_kernel_rfl) (stepL_emb _ _ _ _ ⟨14, by decide⟩ x).symm
      · exact fun x => Eq.trans (b := pL _ _ _ _ ⟨13, by decide⟩ x) (by sl_kernel_rfl) (stepL_emb _ _ _ _ ⟨13, by decide⟩ x).symm
      · exact fun x => Eq.trans (b := pL _ _ _ _ ⟨12, by decide⟩ x) (by sl_kernel_rfl) (stepL_emb _ _ _ _ ⟨12, by decide⟩ x).symm
      · exact fun x => Eq.trans (b := pL _ _ _ _ ⟨11, by decide⟩ x) (by sl_kernel_rfl) (stepL_emb _ _ _ _ ⟨11, by decide⟩ x).symm
      · exact fun x => Eq.trans (b := pL _ _ _ _ ⟨10, by decide⟩ x) (by sl_kernel_rfl) (stepL_emb _ _ _ _ ⟨10, by decide⟩ x).symm
      · exact fun x => Eq.trans (b := pL _ _ _ _ ⟨9, by decide⟩ x) (by sl_kernel_rfl) (stepL_emb _ _ _ _ ⟨9, by decide⟩ x).symm
      · exact fun x => Eq.trans (b := pL _ _ _ _ ⟨8, by decide⟩ x) (by sl_kernel_rfl) (stepL_emb _ _ _ _ ⟨8, by decide⟩ x).symm
      · exact fun x => Eq.trans (b := pL _ _ _ _ ⟨7, by decide⟩ x) (by sl_kernel_rfl) (stepL_emb _ _ _ _ ⟨7, by decide⟩ x).symm
      · exact fun x => Eq.trans (b := pL _ _ _ _ ⟨6, by decide⟩ x) (by sl_kernel_rfl) (stepL_emb _ _ _ _ ⟨6, by decide⟩ x).symm
      · exact fun x => Eq.trans (b := pL _ _ _ _ ⟨5, by decide⟩ x) (by sl_kernel_rfl) (stepL_emb _ _ _ _ ⟨5, by decide⟩ x).symm
      · exact fun x => Eq.trans (b := pL _ _ _ _ ⟨4, by decide⟩ x) (by sl_kernel_rfl) (stepL_emb _ _ _ _ ⟨4, by decide⟩ x).symm
      · exact fun x => Eq.trans (b := pL _ _ _ _ ⟨3, by decide⟩ x) (by sl_kernel_rfl) (stepL_emb _ _ _ _ ⟨3, by decide⟩ x).symm
      · exact fun x => Eq.trans (b := pL _ _ _ _ ⟨2, by decide⟩ x) (by sl_kernel_rfl) (stepL_emb _ _ _ _ ⟨2, by decide⟩ x).symm
      · exact fun x => Eq.trans (b := pL _ _ _ _ ⟨1, by decide⟩ x) (by sl_kernel_rfl) (stepL_emb _ _ _ _ ⟨1, by decide⟩ x).symm
      · exact fun x => Eq.trans (b := pL _ _ _ _ ⟨0, by decide⟩ x) (by sl_kernel_rfl) (stepL_emb _ _ _ _ ⟨0, by decide⟩ x).symm
    · exact View.cover_of_tiledL (s := S1x2048) _ S1x128.size (by sl_kernel_rfl) y

/-- The condition under which a point writes the quotient out. -/
abbrev last (i : grid1.Coords) : Prop := k1_cond2 i = 1#1

/-- What the output's block holds after the point. -/
def outAfter (i : grid1.Coords) (xa : Vec F S64x2048 .f32) (xl : Vec F S1x2048 .f32) (d : Vec F S2048x64 .f32) : Vec F S2048x64 .f32 :=
  if last i then outOf xa xl else d

theorem body_run (E : Set ℕ) (x0 : Vec F S1x2048x64 .f32) (x1 : Vec F S8192x128 .f32) (d : Vec F S2048x64 .f32) (xa : Vec F S64x2048 .f32) (xm xl : Vec F S1x2048 .f32) :
    (iprop(owns (c : Thread nD τ) arg1 fullShare x0 ∗ owns (c : Thread nD τ) arg2 fullShare x1 ∗ owns (c : Thread nD τ) arg3 fullShare d
        ∗ owns (c : Thread nD τ) arg4 fullShare xa ∗ owns (c : Thread nD τ) arg5 fullShare xm ∗ owns (c : Thread nD τ) arg6 fullShare xl) : sProp 𝕄)
      ⊢ wp frame (wpE (defs₀ (F := F)) Variants.none c none) E (cc1__tc_attn_body i arg1 harg1 arg2 harg2 arg3 harg3 arg4 harg4 arg5 harg5 arg6 harg6)
          (fun _ => iprop(owns (c : Thread nD τ) arg1 fullShare x0 ∗ owns (c : Thread nD τ) arg2 fullShare x1
            ∗ owns (c : Thread nD τ) arg3 fullShare (outAfter i (stepA x0 x1 (fromM i xm) (fromA i xa)) (stepL x0 x1 (fromM i xm) (fromL i xl)) d)
            ∗ owns (c : Thread nD τ) arg4 fullShare (stepA x0 x1 (fromM i xm) (fromA i xa))
            ∗ owns (c : Thread nD τ) arg5 fullShare (stepM x0 x1 (fromM i xm))
            ∗ owns (c : Thread nD τ) arg6 fullShare (stepL x0 x1 (fromM i xm) (fromL i xl)))) := by
  rw [cc1__tc_attn_body_eq_skeleton]; unfold cc1__tc_attn_body_skel
  rw [wp_bind]
  iintro ⟨H0, H1, H2, HA, HM, HL⟩
  ihave Hw := (part20_run c i arg1 harg1 arg2 harg2 arg3 harg3 arg4 harg4 arg5 harg5 arg6 harg6 E x0 x1 xa xm xl) $$ [H0 H1 HA HM HL]
  · isplitl [H0]; · iexact H0
    isplitl [H1]; · iexact H1
    isplitl [HA]; · iexact HA
    isplitl [HM]; · iexact HM
    iexact HL
  ihave Hww := (wp_wand _ _ _) $$ Hw
  iapply Hww
  iintro %r ⟨H0, H1, HA, HM, HL⟩
  generalize stepM x0 x1 (fromM i xm) = ym
  generalize stepL x0 x1 (fromM i xm) (fromL i xl) = yl
  generalize stepA x0 x1 (fromM i xm) (fromA i xa) = ya
  unfold owns
  icases H2 with ⟨%f2, %hf2, H2⟩
  icases HA with ⟨%fa, %hfa, HA⟩
  icases HL with ⟨%fl, %hfl, HL⟩
  subst hf2 hfa hfl
  by_cases hc : last i
  · rw [outAfter, if_pos hc]
    sl_exec (disch := sl_exact hc)
    sl_step
    isplitl [H0]; · iexact H0
    isplitl [H1]; · iexact H1
    isplitl [H2]
    · iexists _; isplitr; swap; · iexact H2
      ipureintro
      refine (read_writes_unit_zero _ _ _ (by decide) _ _).trans ?_
      unfold outOf
      congr 1
      · funext y; exact congrArg (View.read (Elt F) arg4.view fa) (unit_zero_emb _ (by decide) _ y)
      · funext y; exact congrArg (View.read (Elt F) arg6.view fl) (unit_zero_emb _ (by decide) _ y)
    isplitl [HA]
    · iexists _; isplitr; swap; · iexact HA
      ipureintro; rfl
    isplitl [HM]; · iexact HM
    iexists _; isplitr; swap; · iexact HL
    ipureintro; rfl
  · rw [outAfter, if_neg hc]
    sl_exec (disch := sl_exact hc)
    sl_step
    isplitl [H0]; · iexact H0
    isplitl [H1]; · iexact H1
    isplitl [H2]
    · iexists _; isplitr; swap; · iexact H2
      ipureintro; rfl
    isplitl [HA]
    · iexists _; isplitr; swap; · iexact HA
      ipureintro; rfl
    isplitl [HM]; · iexact HM
    iexists _; isplitr; swap; · iexact HL
    ipureintro; rfl

end Run

/-! ## The four calls' bodies are one function -/

theorem body2_eq : cc2__tc_attn_body (F := F) = cc1__tc_attn_body (F := F) := by sl_kernel_rfl
theorem body3_eq : cc3__tc_attn_body (F := F) = cc1__tc_attn_body (F := F) := by sl_kernel_rfl
theorem body4_eq : cc4__tc_attn_body (F := F) = cc1__tc_attn_body (F := F) := by sl_kernel_rfl

end Cert.KernelIdeal.Hash
-- ==== Proof.KernelIdeal.TcPoint.lean ====
/-
  One grid point of an attention call, as the pipeline asks for it: the scratch before the point at what the points before
  it left, after the point at one step more, and the output block written at the last point only.
-/
module

public import proofs.«01_k».proof.Proof.KernelIdeal.TcBody

@[expose] public section

set_option maxRecDepth 16384

noncomputable section

namespace Cert.KernelIdeal.Hash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]

local notation "𝕄" => MT nD τ sig (HIx 1) (Elt F) ℕ UU ℕ

section Scratch

variable {N : ℕ} (x0 : Fin N → Vec F S1x2048x64 .f32) (x1 : Fin N → Vec F S8192x128 .f32)

/-- The scratch (weighted sum, running maximum, normalizer) after the points up to `n`. -/
def scrAfter : (n : ℕ) → n < N → Vec F S64x2048 .f32 × Vec F S1x2048 .f32 × Vec F S1x2048 .f32
  | 0, h => (stepA (x0 ⟨0, h⟩) (x1 ⟨0, h⟩) initM initA, stepM (x0 ⟨0, h⟩) (x1 ⟨0, h⟩) initM, stepL (x0 ⟨0, h⟩) (x1 ⟨0, h⟩) initM initL)
  | n + 1, h =>
    (stepA (x0 ⟨n + 1, h⟩) (x1 ⟨n + 1, h⟩) (scrAfter n (Nat.lt_of_succ_lt h)).2.1 (scrAfter n (Nat.lt_of_succ_lt h)).1,
     stepM (x0 ⟨n + 1, h⟩) (x1 ⟨n + 1, h⟩) (scrAfter n (Nat.lt_of_succ_lt h)).2.1,
     stepL (x0 ⟨n + 1, h⟩) (x1 ⟨n + 1, h⟩) (scrAfter n (Nat.lt_of_succ_lt h)).2.1 (scrAfter n (Nat.lt_of_succ_lt h)).2.2)

/-- The block a call writes from the scratch at point `n`. -/
def outAt (n : ℕ) (h : n < N) : Vec F S2048x64 .f32 := outOf (scrAfter x0 x1 n h).1 (scrAfter x0 x1 n h).2.2

variable (c : Dev nD) (arg4 : Memref sig .tc .vmem S64x2048 .f32) (arg5 arg6 : Memref sig .tc .vmem S1x2048 .f32)

/-- The scratch before point `n`: at anything before the first, then at what the points before left. -/
def scrPhi : (n : ℕ) → n ≤ N → sProp 𝕄
  | 0, _ => iprop((∃ f, owns (c : Thread nD τ) arg4 fullShare f) ∗ (∃ f, owns (c : Thread nD τ) arg5 fullShare f) ∗ (∃ f, owns (c : Thread nD τ) arg6 fullShare f))
  | n + 1, h => iprop(owns (c : Thread nD τ) arg4 fullShare (scrAfter x0 x1 n h).1 ∗ owns (c : Thread nD τ) arg5 fullShare (scrAfter x0 x1 n h).2.1
      ∗ owns (c : Thread nD τ) arg6 fullShare (scrAfter x0 x1 n h).2.2)

/-- At any point the scratch is held at something. -/
theorem scrPhi_any (n : ℕ) (h : n ≤ N) : scrPhi x0 x1 c arg4 arg5 arg6 n h
    ⊢ (iprop((∃ f, owns (c : Thread nD τ) arg4 fullShare f) ∗ (∃ f, owns (c : Thread nD τ) arg5 fullShare f) ∗ (∃ f, owns (c : Thread nD τ) arg6 fullShare f)) : sProp 𝕄) := by
  cases n with
  | zero => exact .rfl
  | succ n =>
    unfold scrPhi
    iintro ⟨H4, H5, H6⟩
    isplitl [H4]; · iexists _; iexact H4
    isplitl [H5]; · iexists _; iexact H5
    iexists _; iexact H6

end Scratch

section Point

variable (c : Dev nD) (i : grid1.Coords) (arg1 : Memref sig .tc .vmem S1x2048x64 .f32) (harg1 : arg1.IsWhole) (arg2 : Memref sig .tc .vmem S8192x128 .f32) (harg2 : arg2.IsWhole)
  (arg3 : Memref sig .tc .vmem S2048x64 .f32) (harg3 : arg3.IsWhole) (arg4 : Memref sig .tc .vmem S64x2048 .f32) (harg4 : arg4.IsWhole)
  (arg5 : Memref sig .tc .vmem S1x2048 .f32) (harg5 : arg5.IsWhole) (arg6 : Memref sig .tc .vmem S1x2048 .f32) (harg6 : arg6.IsWhole)

/-- The body at point `t` of `N`: the scratch moves one step, the inputs stay, and the output block is written at the last
    point and kept elsewhere. -/
theorem point_run {N : ℕ} (x0 : Fin N → Vec F S1x2048x64 .f32) (x1 : Fin N → Vec F S8192x128 .f32) (t : Fin N)
    (hf : first i ↔ t.val = 0) (d : Vec F S2048x64 .f32) :
    (iprop(scrPhi x0 x1 c arg4 arg5 arg6 t.val (Nat.le_of_lt t.isLt)
        ∗ owns (c : Thread nD τ) arg1 fullShare (x0 t) ∗ owns (c : Thread nD τ) arg2 fullShare (x1 t) ∗ owns (c : Thread nD τ) arg3 fullShare d) : sProp 𝕄)
      ⊢ wp frame (wpE (defs₀ (F := F)) Variants.none c none) Set.univ (cc1__tc_attn_body i arg1 harg1 arg2 harg2 arg3 harg3 arg4 harg4 arg5 harg5 arg6 harg6)
        (fun _ => iprop(scrPhi x0 x1 c arg4 arg5 arg6 (t.val + 1) t.isLt
          ∗ owns (c : Thread nD τ) arg1 fullShare (x0 t) ∗ owns (c : Thread nD τ) arg2 fullShare (x1 t)
          ∗ owns (c : Thread nD τ) arg3 fullShare (if last i then outAt x0 x1 t.val t.isLt else d))) := by
  obtain ⟨n, hn⟩ := t
  have key : ∀ (xa : Vec F S64x2048 .f32) (xm xl : Vec F S1x2048 .f32),
      scrAfter x0 x1 n hn = (stepA (x0 ⟨n, hn⟩) (x1 ⟨n, hn⟩) (fromM i xm) (fromA i xa), stepM (x0 ⟨n, hn⟩) (x1 ⟨n, hn⟩) (fromM i xm),
        stepL (x0 ⟨n, hn⟩) (x1 ⟨n, hn⟩) (fromM i xm) (fromL i xl)) →
      (iprop((owns (c : Thread nD τ) arg4 fullShare xa ∗ owns (c : Thread nD τ) arg5 fullShare xm ∗ owns (c : Thread nD τ) arg6 fullShare xl)
        ∗ owns (c : Thread nD τ) arg1 fullShare (x0 ⟨n, hn⟩) ∗ owns (c : Thread nD τ) arg2 fullShare (x1 ⟨n, hn⟩) ∗ owns (c : Thread nD τ) arg3 fullShare d) : sProp 𝕄)
      ⊢ wp frame (wpE (defs₀ (F := F)) Variants.none c none) Set.univ (cc1__tc_attn_body i arg1 harg1 arg2 harg2 arg3 harg3 arg4 harg4 arg5 harg5 arg6 harg6)
        (fun _ => iprop(scrPhi x0 x1 c arg4 arg5 arg6 (n + 1) hn
          ∗ owns (c : Thread nD τ) arg1 fullShare (x0 ⟨n, hn⟩) ∗ owns (c : Thread nD τ) arg2 fullShare (x1 ⟨n, hn⟩)
          ∗ owns (c : Thread nD τ) arg3 fullShare (if last i then outAt x0 x1 n hn else d))) := by
    intro xa xm xl hs
    rw [show outAt x0 x1 n hn = outOf (scrAfter x0 x1 n hn).1 (scrAfter x0 x1 n hn).2.2 from rfl,
      show scrPhi x0 x1 c arg4 arg5 arg6 (n + 1) hn = (iprop(owns (c : Thread nD τ) arg4 fullShare (scrAfter x0 x1 n hn).1
        ∗ owns (c : Thread nD τ) arg5 fullShare (scrAfter x0 x1 n hn).2.1 ∗ owns (c : Thread nD τ) arg6 fullShare (scrAfter x0 x1 n hn).2.2) : sProp 𝕄) from rfl, hs]
    dsimp only
    iintro ⟨⟨H4, H5, H6⟩, H1, H2, H3⟩
    ihave Hw := (body_run c i arg1 harg1 arg2 harg2 arg3 harg3 arg4 harg4 arg5 harg5 arg6 harg6 Set.univ (x0 ⟨n, hn⟩) (x1 ⟨n, hn⟩) d xa xm xl) $$ [H1 H2 H3 H4 H5 H6]
    · isplitl [H1]; · iexact H1
      isplitl [H2]; · iexact H2
      isplitl [H3]; · iexact H3
      isplitl [H4]; · iexact H4
      isplitl [H5]; · iexact H5
      iexact H6
    ihave Hww := (wp_wand _ _ _) $$ Hw
    iapply Hww
    iintro %r ⟨H1, H2, H3, H4, H5, H6⟩
    isplitl [H4 H5 H6]
    · isplitl [H4]; · iexact H4
      isplitl [H5]; · iexact H5
      iexact H6
    isplitl [H1]; · iexact H1
    isplitl [H2]; · iexact H2
    iexact H3
  cases n with
  | zero =>
    have hfi : first i := hf.mpr rfl
    show iprop(((∃ f, owns (c : Thread nD τ) arg4 fullShare f) ∗ (∃ f, owns (c : Thread nD τ) arg5 fullShare f) ∗ (∃ f, owns (c : Thread nD τ) arg6 fullShare f)) ∗ _) ⊢ _
    iintro ⟨⟨⟨%xa, H4⟩, ⟨%xm, H5⟩, ⟨%xl, H6⟩⟩, HR⟩
    iapply (key xa xm xl (by simp only [scrAfter, fromM, fromA, fromL, if_pos hfi]))
    isplitl [H4 H5 H6]
    · isplitl [H4]; · iexact H4
      isplitl [H5]; · iexact H5
      iexact H6
    iexact HR
  | succ n =>
    have hfi : ¬ first i := fun h => Nat.succ_ne_zero n (hf.mp h)
    exact key _ _ _ (by simp only [scrAfter, fromM, fromA, fromL, if_neg hfi])

end Point

/-- The condition of the first point, from the grid's coordinate. -/
theorem first_iff (i : grid1.Coords) (n : ℕ) (hn : n < 8) (e0 : (i 0).val = n) : first i ↔ n = 0 := by
  simp only [first, e0]
  exact (by decide +kernel : ∀ n : Fin 8, Scalar.cmpi .ne (Scalar.extui (Scalar.cmpi .eq (BitVec.ofNat 32 n.val) 0#32) : BitVec 32) 0#32 = 1#1 ↔ n.val = 0) ⟨n, hn⟩

/-- The condition of the last point, from the grid's coordinate. -/
theorem last_iff (i : grid1.Coords) (n : ℕ) (hn : n < 8) (e0 : (i 0).val = n) : last i ↔ n = 7 := by
  simp only [last, k1_cond2, e0]
  exact (by decide +kernel : ∀ n : Fin 8, Scalar.cmpi .ne (Scalar.extui (Scalar.cmpi .eq (BitVec.ofNat 32 n.val) 7#32) : BitVec 32) 0#32 = 1#1 ↔ n.val = 7) ⟨n, hn⟩

end Cert.KernelIdeal.Hash
-- ==== Proof.Softmax.lean ====
module

public import Idealize.ShloMosaic.PureOps.Ideal

/-! # Weighted means over extended reals

The mean of 512 values (8 passes of 64) with weights proportional to the exponentials of real numbers, computed two ways: by
passes that keep a running maximum, and from each pass's mean and the logarithm of its sum of exponentials. The values may be
any extended reals. -/

@[expose] public section

namespace Cert.Softmax

open Idealize.ShloMosaic

/-- A nonnegative real factor goes through a sum of extended reals. -/
theorem coe_mul_sum {ι : Type} (c : ℝ) (hc : 0 ≤ c) (S : Finset ι) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (by exact_mod_cast hc) (EReal.coe_ne_top c), ih]

/-- A sum of reals, read as extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- An extended real that is neither infinity is a real. -/
theorem exists_coe {x : EReal} (hb : x ≠ ⊥) (ht : x ≠ ⊤) : ∃ r : ℝ, x = r := ⟨x.toReal, (EReal.coe_toReal ht hb).symm⟩

/-- The largest of finitely many extended reals, none of them plus infinity and not all minus infinity, is a real. -/
theorem exists_fold_max {ι : Type} [Fintype ι] (f : ι → EReal) (ht : ∀ i, f i ≠ ⊤) (i₀ : ι) (hb : f i₀ ≠ ⊥) :
    ∃ r : ℝ, Finset.univ.fold max ⊥ f = r := by
  have e : Finset.univ.fold max ⊥ f = Finset.univ.sup f := rfl
  refine exists_coe ?_ ?_
  · rw [e]; intro h
    exact hb (le_bot_iff.mp (h ▸ Finset.le_sup (f := f) (Finset.mem_univ i₀)))
  · rw [e]; refine ne_of_lt ?_
    rw [Finset.sup_lt_iff bot_lt_top]
    exact fun i _ => lt_top_iff_ne_top.mpr (ht i)

/-- The weighted sum of a pass's values. -/
noncomputable def wsum (s : Fin 64 → ℝ) (μ : ℝ) (v : Fin 64 → EReal) : EReal :=
  ∑ j, ((Real.exp (s j - μ) : ℝ) : EReal) * v j

/-- The sum of a pass's weights. -/
noncomputable def nsum (s : Fin 64 → ℝ) (μ : ℝ) : ℝ := ∑ j, Real.exp (s j - μ)

theorem nsum_pos (s : Fin 64 → ℝ) (μ : ℝ) : 0 < nsum s μ :=
  Finset.sum_pos (fun _ _ => Real.exp_pos _) ⟨0, Finset.mem_univ _⟩

/-- Moving the offset of the sum of weights. -/
theorem nsum_mul (s : Fin 64 → ℝ) (μ ν : ℝ) : nsum s μ * Real.exp (μ - ν) = nsum s ν := by
  unfold nsum
  rw [Finset.sum_mul]
  refine Finset.sum_congr rfl fun j _ => ?_
  rw [← Real.exp_add]; congr 1; ring

/-- Scaling a weighted sum. -/
theorem wsum_mul (s : Fin 64 → ℝ) (μ : ℝ) (v : Fin 64 → EReal) (c : ℝ) (hc : 0 ≤ c) :
    wsum s μ v * (c : EReal) = ∑ j, ((Real.exp (s j - μ) * c : ℝ) : EReal) * v j := by
  unfold wsum
  rw [mul_comm, coe_mul_sum c hc]
  refine Finset.sum_congr rfl fun j _ => ?_
  rw [← mul_assoc, ← EReal.coe_mul, mul_comm c]

/-- Moving the offset of the weighted sum. -/
theorem wsum_exp (s : Fin 64 → ℝ) (μ ν : ℝ) (v : Fin 64 → EReal) :
    wsum s μ v * ((Real.exp (μ - ν) : ℝ) : EReal) = wsum s ν v := by
  rw [wsum_mul _ _ _ _ (Real.exp_pos _).le]
  unfold wsum
  refine Finset.sum_congr rfl fun j _ => ?_
  rw [← Real.exp_add]; congr 3; ring

/-- The mean of the values with weights proportional to the exponentials. -/
noncomputable def mean (s : ℕ → Fin 64 → ℝ) (v : ℕ → Fin 64 → EReal) : EReal :=
  ∑ h ∈ Finset.range 8, ∑ j, ((Real.exp (s h j) / ∑ h ∈ Finset.range 8, ∑ j, Real.exp (s h j) : ℝ) : EReal) * v h j

/-! ## By passes -/

/-- What the running maximum, sum of weights and weighted sum are after `n` passes. -/
def After (s : ℕ → Fin 64 → ℝ) (v : ℕ → Fin 64 → EReal) (n : ℕ) (M L A : EReal) : Prop :=
  ∃ μ : ℝ, M = μ ∧ L = ((∑ h ∈ Finset.range n, nsum (s h) μ : ℝ) : EReal) ∧ A = ∑ h ∈ Finset.range n, wsum (s h) μ (v h)

/-- The first pass, from minus infinity and zeros. -/
theorem after_first (s : ℕ → Fin 64 → ℝ) (v : ℕ → Fin 64 → EReal) (m : ℝ) :
    After s v 1 (max ⊥ (m : EReal))
      (0 * Ideal.exp (⊥ - max ⊥ (m : EReal)) + ((nsum (s 0) m : ℝ) : EReal) * Ideal.exp ((m : EReal) - max ⊥ (m : EReal)))
      (0 * Ideal.exp (⊥ - max ⊥ (m : EReal)) + wsum (s 0) m (v 0) * Ideal.exp ((m : EReal) - max ⊥ (m : EReal))) := by
  have e : max ⊥ (m : EReal) = m := max_eq_right bot_le
  refine ⟨m, e, ?_, ?_⟩
  · rw [e, zero_mul, zero_add, ← EReal.coe_sub, Ideal.exp_coe, ← EReal.coe_mul, nsum_mul]; simp
  · rw [e, zero_mul, zero_add, ← EReal.coe_sub, Ideal.exp_coe, wsum_exp]; simp

/-- A later pass. -/
theorem after_next (s : ℕ → Fin 64 → ℝ) (v : ℕ → Fin 64 → EReal) (n : ℕ) (M L A : EReal) (h : After s v n M L A) (m : ℝ) :
    After s v (n + 1) (max M (m : EReal))
      (L * Ideal.exp (M - max M (m : EReal)) + ((nsum (s n) m : ℝ) : EReal) * Ideal.exp ((m : EReal) - max M (m : EReal)))
      (A * Ideal.exp (M - max M (m : EReal)) + wsum (s n) m (v n) * Ideal.exp ((m : EReal) - max M (m : EReal))) := by
  obtain ⟨μ, rfl, rfl, rfl⟩ := h
  have e : max (μ : EReal) (m : EReal) = ((max μ m : ℝ) : EReal) := (EReal.coe_strictMono.monotone.map_max).symm
  refine ⟨max μ m, e, ?_, ?_⟩
  · rw [e, ← EReal.coe_sub, ← EReal.coe_sub, Ideal.exp_coe, Ideal.exp_coe, ← EReal.coe_mul, ← EReal.coe_mul, ← EReal.coe_add,
      nsum_mul, Finset.sum_mul, Finset.sum_range_succ]
    simp only [nsum_mul]
  · rw [e, ← EReal.coe_sub, ← EReal.coe_sub, Ideal.exp_coe, Ideal.exp_coe, wsum_exp, Finset.sum_range_succ, mul_comm (∑ _ ∈ _, _),
      coe_mul_sum _ (Real.exp_pos _).le]
    congr 1
    refine Finset.sum_congr rfl fun h _ => ?_
    rw [mul_comm, wsum_exp]

/-- The sum of all weights at an offset. -/
theorem sum_nsum (s : ℕ → Fin 64 → ℝ) (μ : ℝ) (n : ℕ) :
    (∑ h ∈ Finset.range n, nsum (s h) μ) * Real.exp μ = ∑ h ∈ Finset.range n, ∑ j, Real.exp (s h j) := by
  rw [Finset.sum_mul]
  refine Finset.sum_congr rfl fun h _ => ?_
  have := nsum_mul (s h) μ 0
  rw [sub_zero] at this
  rw [this]; unfold nsum; simp

/-- After the last pass the quotient is the mean. -/
theorem after_last (s : ℕ → Fin 64 → ℝ) (v : ℕ → Fin 64 → EReal) (M L A : EReal) (h : After s v 8 M L A) :
    Ideal.div A L = mean s v := by
  obtain ⟨μ, rfl, rfl, rfl⟩ := h
  have pos : 0 < ∑ h ∈ Finset.range 8, nsum (s h) μ :=
    Finset.sum_pos (fun h _ => nsum_pos (s h) μ) ⟨0, by simp⟩
  rw [Ideal.div_coe pos.ne', mul_comm, coe_mul_sum _ (by positivity)]
  unfold mean
  refine Finset.sum_congr rfl fun h _ => ?_
  rw [mul_comm, wsum_mul _ _ _ _ (by positivity)]
  refine Finset.sum_congr rfl fun j _ => ?_
  congr 2
  rw [← sum_nsum s μ 8, Real.exp_sub]
  have := Real.exp_pos μ
  field_simp

/-! ## From the logarithms of the sums of exponentials -/

/-- The logarithm of a sum of exponentials, an offset taken out and added back. -/
theorem lse_coe {ι : Type} [Fintype ι] [Nonempty ι] (f : ι → ℝ) (m : ℝ) :
    Ideal.log (∑ j, Ideal.exp ((f j : EReal) - (m : EReal))) + (m : EReal) = ((Real.log (∑ j, Real.exp (f j)) : ℝ) : EReal) := by
  have pos : 0 < ∑ j, Real.exp (f j - m) :=
    Finset.sum_pos (fun _ _ => Real.exp_pos _) ⟨Classical.arbitrary ι, Finset.mem_univ _⟩
  have e : ∑ j, Ideal.exp ((f j : EReal) - (m : EReal)) = ((∑ j, Real.exp (f j - m) : ℝ) : EReal) := by
    rw [coe_sum]
    exact Finset.sum_congr rfl fun j _ => by rw [← EReal.coe_sub, Ideal.exp_coe]
  rw [e, Ideal.log_coe, if_neg (not_le.mpr pos), ← EReal.coe_add]
  congr 1
  have e2 : ∑ j, Real.exp (f j) = (∑ j, Real.exp (f j - m)) * Real.exp m := by
    rw [Finset.sum_mul]
    exact Finset.sum_congr rfl fun j _ => by rw [← Real.exp_add]; congr 1; ring
  rw [e2, Real.log_mul pos.ne' (Real.exp_pos m).ne', Real.log_exp]

/-- The mean from each pass's own mean and logarithm. -/
theorem mean_of_lse (s : ℕ → Fin 64 → ℝ) (v : ℕ → Fin 64 → EReal) (lam : ℕ → ℝ) (LL : ℝ)
    (hl : ∀ h, lam h = Real.log (∑ j, Real.exp (s h j)))
    (hL : LL = Real.log (∑ h : Fin 8, Real.exp (lam h.val))) :
    ∑ h : Fin 8, (∑ j, Ideal.exp ((s h.val j : EReal) - (lam h.val : EReal)) * v h.val j) *
      Ideal.exp ((lam h.val : EReal) - (LL : EReal)) = mean s v := by
  have el : ∀ h, Real.exp (lam h) = ∑ j, Real.exp (s h j) := fun h => by
    rw [hl, Real.exp_log (Finset.sum_pos (fun _ _ => Real.exp_pos _) ⟨0, Finset.mem_univ _⟩)]
  have eL : Real.exp LL = ∑ h ∈ Finset.range 8, ∑ j, Real.exp (s h j) := by
    rw [hL, Real.exp_log (Finset.sum_pos (fun _ _ => Real.exp_pos _) ⟨0, Finset.mem_univ _⟩),
      Finset.sum_range (fun h => ∑ j, Real.exp (s h j))]
    exact Finset.sum_congr rfl fun h _ => el h.val
  unfold mean
  rw [Finset.sum_range (fun h => ∑ j, ((Real.exp (s h j) / ∑ h ∈ Finset.range 8, ∑ j, Real.exp (s h j) : ℝ) : EReal) * v h j)]
  refine Finset.sum_congr rfl fun h _ => ?_
  have e1 : ∑ j, Ideal.exp ((s h.val j : EReal) - (lam h.val : EReal)) * v h.val j = wsum (s h.val) (lam h.val) (v h.val) :=
    Finset.sum_congr rfl fun j _ => by rw [← EReal.coe_sub, Ideal.exp_coe]
  rw [e1, ← EReal.coe_sub, Ideal.exp_coe, wsum_mul _ _ _ _ (Real.exp_pos _).le]
  refine Finset.sum_congr rfl fun j _ => ?_
  congr 2
  rw [← eL, ← Real.exp_add, ← Real.exp_sub]; congr 1; ring

/-- A finite maximum is kept by the test for finiteness. -/
theorem select_finite (m : ℝ) :
    Scalar.select (Ideal.cmp .olt (max (m : EReal) (-(m : EReal))) ⊤) (m : EReal) 0 = m := by
  have h : max (m : EReal) (-(m : EReal)) < ⊤ := by
    rw [max_lt_iff]; exact ⟨EReal.coe_lt_top m, by rw [← EReal.coe_neg]; exact EReal.coe_lt_top _⟩
  simp [Ideal.cmp, h, Scalar.select]

end Cert.Softmax
-- ==== Proof.KernelIdeal.TcMath.lean ====
module

public import proofs.«01_k».proof.Proof.KernelIdeal.TcPoint
public import proofs.«01_k».proof.Proof.Softmax

/-! # The numbers of a tile

A tile's products, maxima, weights and sums read at an index, over the extended reals. -/

set_option maxRecDepth 16384

@[expose] public section

namespace Cert.KernelIdeal.Hash

open Cert.KernelIdeal Cert.KernelIdeal.Gen
open Idealize.ShloMosaic

/-- Minus infinity's bits. -/
theorem ofBits_bot : Ideal.ofBits .f32 0xFF800000#32 = ⊥ := by simp [Ideal.ofBits, Ideal.ieee]

/-- The bucket of a key, as the kernel computes it. -/
theorem rowBucket (r : Fin 512) :
    Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 r.val) 64#32) 0#32))
        (IntOp.subi (IntOp.divsi ArithUnit.vector (BitVec.ofNat 32 r.val) 64#32) 1#32)
        (IntOp.divsi ArithUnit.vector (BitVec.ofNat 32 r.val) 64#32) = BitVec.ofNat 32 (r.val / 64) := by
  revert r; decide +kernel

/-- The bucket of a query, as the kernel computes it. -/
theorem colBucket (c : Fin 128) :
    Scalar.select
        (IntOp.andi
          (IntOp.cmpi CmpIPredicate.ne
            (IntOp.subi (BitVec.setWidth 32 (IntOp.cmpi CmpIPredicate.sgt (BitVec.ofNat 32 c.val) 0#32))
              (BitVec.setWidth 32 (IntOp.cmpi CmpIPredicate.slt (BitVec.ofNat 32 c.val) 0#32)))
            (Scalar.subi (Scalar.extui (Scalar.cmpi CmpIPredicate.sgt 16#32 0#32))
              (Scalar.extui (Scalar.cmpi CmpIPredicate.slt 16#32 0#32))))
          (IntOp.cmpi CmpIPredicate.ne (IntOp.remsi ArithUnit.vector (BitVec.ofNat 32 c.val) 16#32) 0#32))
        (IntOp.subi (IntOp.divsi ArithUnit.vector (BitVec.ofNat 32 c.val) 16#32) 1#32)
        (IntOp.divsi ArithUnit.vector (BitVec.ofNat 32 c.val) 16#32) = BitVec.ofNat 32 (c.val / 16) := by
  revert c; decide +kernel

/-- Equality of two small buckets as words. -/
theorem bucketEq (a b : Fin 8) : IntOp.cmpi CmpIPredicate.eq (BitVec.ofNat 32 a.val) (BitVec.ofNat 32 b.val) =
    BitVec.ofBool (decide (a.val = b.val)) := by
  revert a b; decide +kernel

/-- A key counts for a query where their buckets agree. -/
theorem diag_apply (r : Fin 512) (c : Fin 128) : diag (ix2 r c) = BitVec.ofBool (decide (r.val / 64 = c.val / 16)) := by
  pointwise [diag, k1_pay5, k1_pay6, k1_pay7, k1_pay8, k1_pay9]
  rw [rowBucket, colBucket]
  exact bucketEq ⟨r.val / 64, by omega⟩ ⟨c.val / 16, by omega⟩

/-- A tile's products. -/
theorem tileS_apply (q : Vec Ideal S1x128x64 .f32) (k : Vec Ideal S512x64 .f32) (r : Fin 512) (c : Fin 128) :
    tileS q k (ix2 r c) =
      if r.val / 64 = c.val / 16 then ∑ d : Fin 64, k (ix2 r d) * q (ix3 (0 : Fin 1) c d) else ⊥ := by
  pointwise [tileS, k1_pay21]
  rw [diag_apply, ofBits_bot]
  by_cases h : r.val / 64 = c.val / 16 <;> simp [h, Scalar.select]

theorem tileMax_apply (q : Vec Ideal S1x128x64 .f32) (k : Vec Ideal S512x64 .f32) (c : Fin 128) :
    tileMax q k (ix2 (0 : Fin 1) c) = Finset.univ.fold max ⊥ fun r : Fin 512 => tileS q k (ix2 r c) := by
  unfold tileMax tileS
  pointwise [k1_pay22]
  rw [ofBits_bot]

theorem tileP_apply (q : Vec Ideal S1x128x64 .f32) (k : Vec Ideal S512x64 .f32) (r : Fin 512) (c : Fin 128) :
    tileP q k (ix2 r c) = Ideal.exp (tileS q k (ix2 r c) - tileMax q k (ix2 (0 : Fin 1) c)) := by
  unfold tileP tileS tileMax
  pointwise [k1_pay23]

theorem tileSum_apply (q : Vec Ideal S1x128x64 .f32) (k : Vec Ideal S512x64 .f32) (c : Fin 128) :
    tileSum q k (ix2 (0 : Fin 1) c) = ∑ r : Fin 512, tileP q k (ix2 r c) := by
  unfold tileP tileSum
  pointwise [k1_pay24]

theorem tileO_apply (q : Vec Ideal S1x128x64 .f32) (k v : Vec Ideal S512x64 .f32) (e : Fin 64) (c : Fin 128) :
    tileO q k v (ix2 e c) = ∑ r : Fin 512, v (ix2 r e) * tileP q k (ix2 r c) := by
  unfold tileP tileO
  pointwise [k1_pay25]

theorem outOf_apply (xa : Vec Ideal S64x2048 .f32) (xl : Vec Ideal S1x2048 .f32) (i : Fin 2048) (e : Fin 64) :
    outOf xa xl (ix2 i e) = Ideal.div (xa (ix2 e i)) (xl (ix2 (0 : Fin 1) i)) := by
  pointwise [outOf, k1_pay1]

theorem initM_apply (i : S1x2048.Idx) : initM (F := Ideal) i = ⊥ := by
  pointwise [initM, k1_pay2]
  exact ofBits_bot
theorem initL_apply (i : S1x2048.Idx) : initL (F := Ideal) i = 0 := by
  pointwise [initL, k1_pay3]
theorem initA_apply (i : S64x2048.Idx) : initA (F := Ideal) i = 0 := by
  pointwise [initA, k1_pay4]

/-! ## One query's column -/

/-- The gathered row of a query's `j`-th key. -/
def kvRow (i : Fin 2048) (j : Fin 64) : Fin 8192 := ⟨64 * (i.val / 16) + j.val, by omega⟩

/-- The row within its tile of a query's `j`-th key. -/
def diagRow (i : Fin 2048) (j : Fin 64) : Fin 512 := ⟨64 * (i.val % 128 / 16) + j.val, by omega⟩

theorem diagRow_bucket (i : Fin 2048) (j : Fin 64) : (diagRow i j).val / 64 = (laneOf i).val / 16 := by
  show (64 * (i.val % 128 / 16) + j.val) / 64 = i.val % 128 / 16
  omega

theorem diagRow_inj (i : Fin 2048) : Function.Injective (diagRow i) := fun a b h => by
  have : 64 * (i.val % 128 / 16) + a.val = 64 * (i.val % 128 / 16) + b.val := congrArg Fin.val h
  exact Fin.ext (by omega)

/-- A row of a query's bucket is one of its keys' rows. -/
theorem exists_diagRow (i : Fin 2048) (r : Fin 512) (h : r.val / 64 = (laneOf i).val / 16) : ∃ j, diagRow i j = r := by
  have h' : r.val / 64 = i.val % 128 / 16 := h
  exact ⟨⟨r.val % 64, Nat.mod_lt _ (by decide)⟩, Fin.ext (by show 64 * (i.val % 128 / 16) + r.val % 64 = r.val; omega)⟩

theorem atK (x1 : Vec Ideal S8192x128 .f32) (i : Fin 2048) (j d : Fin 64) :
    at_ x1 (rK (tileOf i)) (ix2 (diagRow i j) d) = x1 (ix2 (kvRow i j) (⟨d.val, by omega⟩ : Fin 128)) := by
  unfold at_; congr 1
  funext a; refine Fin.ext ?_
  fin_cases a
  · show 512 * (i.val / 128) + 1 * (64 * (i.val % 128 / 16) + j.val) = 64 * (i.val / 16) + j.val; omega
  · show 0 + 1 * d.val = d.val; omega

theorem atV (x1 : Vec Ideal S8192x128 .f32) (i : Fin 2048) (j d : Fin 64) :
    at_ x1 (rV (tileOf i)) (ix2 (diagRow i j) d) = x1 (ix2 (kvRow i j) (⟨64 + d.val, by omega⟩ : Fin 128)) := by
  unfold at_; congr 1
  funext a; refine Fin.ext ?_
  fin_cases a
  · show 512 * (i.val / 128) + 1 * (64 * (i.val % 128 / 16) + j.val) = 64 * (i.val / 16) + j.val; omega
  · show 64 + 1 * d.val = 64 + d.val; omega

theorem atQ (x0 : Vec Ideal S1x2048x64 .f32) (i : Fin 2048) (d : Fin 64) :
    at_ x0 (rQ (tileOf i)) (ix3 (0 : Fin 1) (laneOf i) d) = x0 (ix3 (0 : Fin 1) i d) := by
  unfold at_; congr 1
  funext a; refine Fin.ext ?_
  fin_cases a
  · rfl
  · show 128 * (i.val / 128) + 1 * (i.val % 128) = i.val; omega
  · show 0 + 1 * d.val = d.val; omega

theorem atR (x : Vec Ideal S1x2048 .f32) (i : Fin 2048) :
    at_ x (rR (tileOf i)) (ix2 (0 : Fin 1) (laneOf i)) = x (ix2 (0 : Fin 1) i) := by
  unfold at_; congr 1
  funext a; refine Fin.ext ?_
  fin_cases a
  · rfl
  · show 128 * (i.val / 128) + 1 * (i.val % 128) = i.val; omega

theorem atA (x : Vec Ideal S64x2048 .f32) (e : Fin 64) (i : Fin 2048) :
    at_ x (rA (tileOf i)) (ix2 e (laneOf i)) = x (ix2 e i) := by
  unfold at_; congr 1
  funext a; refine Fin.ext ?_
  fin_cases a
  · show 0 + 1 * e.val = e.val; omega
  · show 128 * (i.val / 128) + 1 * (i.val % 128) = i.val; omega

/-- The inner product of a query and its `j`-th key, as the kernel's tile takes it. -/
noncomputable def colS (x0 : Vec Ideal S1x2048x64 .f32) (x1 : Vec Ideal S8192x128 .f32) (i : Fin 2048) (j : Fin 64) : EReal :=
  ∑ d : Fin 64, x1 (ix2 (kvRow i j) (⟨d.val, by omega⟩ : Fin 128)) * x0 (ix3 (0 : Fin 1) i d)

/-- Element `e` of a query's `j`-th value. -/
def colV (x1 : Vec Ideal S8192x128 .f32) (i : Fin 2048) (e j : Fin 64) : EReal :=
  x1 (ix2 (kvRow i j) (⟨64 + e.val, by omega⟩ : Fin 128))

section Column

variable (x0 : Vec Ideal S1x2048x64 .f32) (x1 : Vec Ideal S8192x128 .f32) (i : Fin 2048) (s : Fin 64 → ℝ)
  (hs : ∀ j, colS x0 x1 i j = s j)

include hs in
/-- A tile's products in a query's column, at the rows of its bucket. -/
theorem tileS_diag (j : Fin 64) : tileS (at_ x0 (rQ (tileOf i))) (at_ x1 (rK (tileOf i))) (ix2 (diagRow i j) (laneOf i)) = s j := by
  rw [tileS_apply, if_pos (diagRow_bucket i j), ← hs]
  unfold colS
  exact Finset.sum_congr rfl fun d _ => by rw [atK, atQ]

/-- … and at the other rows. -/
theorem tileS_off (r : Fin 512) (h : ∀ j, diagRow i j ≠ r) :
    tileS (at_ x0 (rQ (tileOf i))) (at_ x1 (rK (tileOf i))) (ix2 r (laneOf i)) = ⊥ := by
  rw [tileS_apply, if_neg]
  exact fun e => (exists_diagRow i r e).elim fun j hj => h j hj

include hs in
/-- A tile's largest product in a query's column is a real. -/
theorem tileMax_real : ∃ m : ℝ, tileMax (at_ x0 (rQ (tileOf i))) (at_ x1 (rK (tileOf i))) (ix2 (0 : Fin 1) (laneOf i)) = m := by
  rw [tileMax_apply]
  refine Cert.Softmax.exists_fold_max _ (fun r => ?_) (diagRow i 0) ?_
  · by_cases h : ∃ j, diagRow i j = r
    · obtain ⟨j, rfl⟩ := h
      rw [tileS_diag x0 x1 i s hs]; exact EReal.coe_ne_top _
    · rw [tileS_off x0 x1 i r fun j hj => h ⟨j, hj⟩]; exact bot_ne_top
  · rw [tileS_diag x0 x1 i s hs]; exact EReal.coe_ne_bot _

variable (m : ℝ) (hm : tileMax (at_ x0 (rQ (tileOf i))) (at_ x1 (rK (tileOf i))) (ix2 (0 : Fin 1) (laneOf i)) = m)

include hs hm in
/-- A tile's weights in a query's column, at the rows of its bucket. -/
theorem tileP_diag (j : Fin 64) : tileP (at_ x0 (rQ (tileOf i))) (at_ x1 (rK (tileOf i))) (ix2 (diagRow i j) (laneOf i)) =
    ((Real.exp (s j - m) : ℝ) : EReal) := by
  rw [tileP_apply, hm, tileS_diag x0 x1 i s hs, ← EReal.coe_sub, Ideal.exp_coe]

include hm in
/-- … and at the other rows. -/
theorem tileP_off (r : Fin 512) (h : ∀ j, diagRow i j ≠ r) :
    tileP (at_ x0 (rQ (tileOf i))) (at_ x1 (rK (tileOf i))) (ix2 r (laneOf i)) = 0 := by
  rw [tileP_apply, hm, tileS_off x0 x1 i r h, EReal.bot_sub, Ideal.exp_bot]

include hs hm in
/-- A tile's sum of weights in a query's column. -/
theorem tileSum_col : tileSum (at_ x0 (rQ (tileOf i))) (at_ x1 (rK (tileOf i))) (ix2 (0 : Fin 1) (laneOf i)) =
    ((Cert.Softmax.nsum s m : ℝ) : EReal) := by
  rw [tileSum_apply, Cert.Softmax.nsum, Cert.Softmax.coe_sum]
  refine (Finset.sum_of_injOn (diagRow i) (fun a _ b _ h => diagRow_inj i h) (fun _ _ => Finset.mem_coe.mpr (Finset.mem_univ _))
    (fun r _ h => ?_) (fun j _ => ?_)).symm
  · exact tileP_off x0 x1 i m hm r fun j hj => h ⟨j, by simp, hj⟩
  · rw [tileP_diag x0 x1 i s hs m hm]

include hs hm in
/-- A tile's weighted sum of values in a query's column. -/
theorem tileO_col (e : Fin 64) :
    tileO (at_ x0 (rQ (tileOf i))) (at_ x1 (rK (tileOf i))) (at_ x1 (rV (tileOf i))) (ix2 e (laneOf i)) =
    Cert.Softmax.wsum s m (colV x1 i e) := by
  rw [tileO_apply, Cert.Softmax.wsum]
  refine (Finset.sum_of_injOn (diagRow i) (fun a _ b _ h => diagRow_inj i h) (fun _ _ => Finset.mem_coe.mpr (Finset.mem_univ _))
    (fun r _ h => ?_) (fun j _ => ?_)).symm
  · rw [tileP_off x0 x1 i m hm r fun j hj => h ⟨j, by simp, hj⟩, mul_zero]
  · rw [tileP_diag x0 x1 i s hs m hm, atV, mul_comm]; rfl

end Column

/-- The running maximum of a query after a point. -/
theorem stepM_col (x0 : Vec Ideal S1x2048x64 .f32) (x1 : Vec Ideal S8192x128 .f32) (xm : Vec Ideal S1x2048 .f32) (i : Fin 2048) :
    stepM x0 x1 xm (ix2 (0 : Fin 1) i) = max (xm (ix2 (0 : Fin 1) i))
      (tileMax (at_ x0 (rQ (tileOf i))) (at_ x1 (rK (tileOf i))) (ix2 (0 : Fin 1) (laneOf i))) := by
  rw [← atR xm i]
  show pM x0 x1 xm (tileOf i) (ix2 (0 : Fin 1) (laneOf i)) = _
  unfold pM
  generalize at_ x0 (rQ (tileOf i)) = q
  generalize at_ x1 (rK (tileOf i)) = k
  generalize at_ xm (rR (tileOf i)) = mo
  pointwise [tileM, newM]

/-- The running sum of weights of a query after a point. -/
theorem stepL_col (x0 : Vec Ideal S1x2048x64 .f32) (x1 : Vec Ideal S8192x128 .f32) (xm xl : Vec Ideal S1x2048 .f32) (i : Fin 2048) :
    stepL x0 x1 xm xl (ix2 (0 : Fin 1) i) =
      xl (ix2 (0 : Fin 1) i) * Ideal.exp (xm (ix2 (0 : Fin 1) i) - max (xm (ix2 (0 : Fin 1) i))
        (tileMax (at_ x0 (rQ (tileOf i))) (at_ x1 (rK (tileOf i))) (ix2 (0 : Fin 1) (laneOf i)))) +
      tileSum (at_ x0 (rQ (tileOf i))) (at_ x1 (rK (tileOf i))) (ix2 (0 : Fin 1) (laneOf i)) *
        Ideal.exp (tileMax (at_ x0 (rQ (tileOf i))) (at_ x1 (rK (tileOf i))) (ix2 (0 : Fin 1) (laneOf i)) -
          max (xm (ix2 (0 : Fin 1) i))
            (tileMax (at_ x0 (rQ (tileOf i))) (at_ x1 (rK (tileOf i))) (ix2 (0 : Fin 1) (laneOf i)))) := by
  rw [← atR xm i, ← atR xl i]
  show pL x0 x1 xm xl (tileOf i) (ix2 (0 : Fin 1) (laneOf i)) = _
  unfold pL
  generalize at_ x0 (rQ (tileOf i)) = q
  generalize at_ x1 (rK (tileOf i)) = k
  generalize at_ xm (rR (tileOf i)) = mo
  generalize at_ xl (rR (tileOf i)) = lo
  pointwise [tileL, newM, alpha, beta]

/-- The running weighted sum of a query after a point. -/
theorem stepA_col (x0 : Vec Ideal S1x2048x64 .f32) (x1 : Vec Ideal S8192x128 .f32) (xm : Vec Ideal S1x2048 .f32)
    (xa : Vec Ideal S64x2048 .f32) (i : Fin 2048) (e : Fin 64) :
    stepA x0 x1 xm xa (ix2 e i) =
      xa (ix2 e i) * Ideal.exp (xm (ix2 (0 : Fin 1) i) - max (xm (ix2 (0 : Fin 1) i))
        (tileMax (at_ x0 (rQ (tileOf i))) (at_ x1 (rK (tileOf i))) (ix2 (0 : Fin 1) (laneOf i)))) +
      tileO (at_ x0 (rQ (tileOf i))) (at_ x1 (rK (tileOf i))) (at_ x1 (rV (tileOf i))) (ix2 e (laneOf i)) *
        Ideal.exp (tileMax (at_ x0 (rQ (tileOf i))) (at_ x1 (rK (tileOf i))) (ix2 (0 : Fin 1) (laneOf i)) -
          max (xm (ix2 (0 : Fin 1) i))
            (tileMax (at_ x0 (rQ (tileOf i))) (at_ x1 (rK (tileOf i))) (ix2 (0 : Fin 1) (laneOf i)))) := by
  rw [← atR xm i, ← atA xa e i]
  show pA x0 x1 xm xa (tileOf i) (ix2 e (laneOf i)) = _
  unfold pA
  generalize at_ x0 (rQ (tileOf i)) = q
  generalize at_ x1 (rK (tileOf i)) = k
  generalize at_ x1 (rV (tileOf i)) = v
  generalize at_ xm (rR (tileOf i)) = mo
  generalize at_ xa (rA (tileOf i)) = ao
  pointwise [tileA, newM, alpha, beta]

/-! ## All passes -/

section Passes

variable (x0 : Fin 8 → Vec Ideal S1x2048x64 .f32) (x1 : Fin 8 → Vec Ideal S8192x128 .f32) (i : Fin 2048) (e : Fin 64)
  (s : ℕ → Fin 64 → ℝ) (v : ℕ → Fin 64 → EReal)
  (hs : ∀ h : Fin 8, ∀ j, colS (x0 h) (x1 h) i j = s h.val j) (hv : ∀ h : Fin 8, colV (x1 h) i e = v h.val)

include hs hv in
/-- The scratch of a query after each point. -/
theorem scrAfter_col : ∀ (n : ℕ) (hn : n < 8), Cert.Softmax.After s v (n + 1) ((scrAfter x0 x1 n hn).2.1 (ix2 (0 : Fin 1) i))
    ((scrAfter x0 x1 n hn).2.2 (ix2 (0 : Fin 1) i)) ((scrAfter x0 x1 n hn).1 (ix2 e i))
  | 0, hn => by
    obtain ⟨m, hm⟩ := tileMax_real (x0 ⟨0, hn⟩) (x1 ⟨0, hn⟩) i (s 0) (hs ⟨0, hn⟩)
    simp only [scrAfter]
    rw [stepM_col, stepL_col, stepA_col, tileSum_col _ _ _ _ (hs ⟨0, hn⟩) m hm, tileO_col _ _ _ _ (hs ⟨0, hn⟩) m hm, hm, hv,
      initM_apply, initL_apply, initA_apply]
    exact Cert.Softmax.after_first s v m
  | n + 1, hn => by
    obtain ⟨m, hm⟩ := tileMax_real (x0 ⟨n + 1, hn⟩) (x1 ⟨n + 1, hn⟩) i (s (n + 1)) (hs ⟨n + 1, hn⟩)
    have ih := scrAfter_col n (Nat.lt_of_succ_lt hn)
    simp only [scrAfter]
    rw [stepM_col, stepL_col, stepA_col, tileSum_col _ _ _ _ (hs ⟨n + 1, hn⟩) m hm, tileO_col _ _ _ _ (hs ⟨n + 1, hn⟩) m hm,
      hm, hv]
    exact Cert.Softmax.after_next s v (n + 1) _ _ _ ih m

include hs hv in
/-- What the last point writes out for a query is its mean. -/
theorem outAt_col : outAt x0 x1 7 (by decide) (ix2 i e) = Cert.Softmax.mean s v := by
  unfold outAt
  rw [outOf_apply]
  exact Cert.Softmax.after_last s v _ _ _ (scrAfter_col x0 x1 i e s v hs hv 7 (by decide))

end Passes

end Cert.KernelIdeal.Hash
-- ==== Proof.KernelIdeal.TileProg.lean ====
/-
  The tile's program, told again: after the index pass it is fifteen like rounds in which two row buffers take turns, and a
  tail that empties both.
-/
module

public import proofs.«01_k».proof.Proof.KernelIdeal.Setup

@[expose] public section

set_option maxRecDepth 16384

noncomputable section

namespace Cert.KernelIdeal.Hash

open Cert.KernelIdeal Cert.KernelIdeal.Gen
open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]

/-- The index array in the device's memory, as a tile names it. -/
abbrev iV : Memref sig .scVector .hbm S262144 .i32 := Memref.whole main_v2_scv
/-- The table in the device's memory, as a tile names it. -/
abbrev kV : Memref sig .scVector .hbm S32768x128 .f32 := Memref.whole main_v1_scv
/-- The gathered rows in the device's memory, as a tile names them. -/
abbrev oV : Memref sig .scVector .hbm S262144x128 .f32 := Memref.whole main_v3_scv
/-- The tile's raw indices. -/
abbrev rawV : Memref sig .scVector .vmem S8192 .i32 := Memref.whole cc0_scratch0
/-- The tile's indices into the table. -/
abbrev adjV : Memref sig .scVector .vmem S8192 .i32 := Memref.whole cc0_scratch1
/-- The first row buffer. -/
abbrev bufA : Memref sig .scVector .vmem S256x128 .f32 := Memref.whole cc0_scratch2
/-- The second row buffer. -/
abbrev bufB : Memref sig .scVector .vmem S256x128 .f32 := Memref.whole cc0_scratch3

/-- The whole table, as each gather names it. -/
abbrev kS : Memref sig .scVector .hbm S32768x128 .f32 :=
  kV.slice (Rect.unit (s := S32768x128) ![0, 0] S32768x128.size inb_S32768x128_S32768x128_0_0) (fun _ => rfl)

theorem adj_inb {c : ℕ} (hc : c < 32) : ∀ a, (![256 * c] : Fin 1 → ℕ) a + S256.size a ≤ S8192.size a := by
  intro a; match a with | ⟨0, _⟩ => show 256 * c + 256 ≤ 8192; omega

/-- The table indices of chunk `c`. -/
abbrev iS (c : ℕ) (hc : c < 32) : Memref sig .scVector .vmem S256 .i32 :=
  adjV.slice (Rect.unit (s := S8192) ![256 * c] S256.size (adj_inb hc)) (fun _ => rfl)

/-- The output rows of chunk `c`. -/
abbrev oS (i : grid0.Coords) (c : ℕ) (hc : c < 32) : Memref sig .scVector .hbm S256x128 .f32 :=
  oV.slice (Rect.unit (s := S262144x128) (k0_off3 i (BitVec.ofNat 32 (256 * c))) S256x128.size (k0_off3_inb i ⟨c, hc⟩)) (fun _ => rfl)

/-- A tile's program. -/
abbrev TP (F : FTy → Type) [FloatOps F] (i : grid0.Coords) :=
  Prog (TpuEff nD τ sig (Elt F) Λ₀ (.scVector ((i 0).castLE hcore0) ((i 1).castLE hsub0))) PUnit

/-- The gather of chunk `c` into a row buffer, then `k`. -/
def gat (i : grid0.Coords) (A : Memref sig .scVector .vmem S256x128 .f32) (sg : DmaSems sig S_) (c : ℕ) (hc : c < 32) (k : TP F i) : TP F i :=
  SparseCore.enqueueIndirectGather rfl kS A gathers_S32768x128_S256x128 (iS c hc) rfl sg.sem (View.wordExact_bits rfl) rfl (Or.inl rfl) >>= fun _ => k

/-- The wait for a row buffer's gather and the copy of the buffer to chunk `c` of the output, then `k`. -/
def put (i : grid0.Coords) (A : Memref sig .scVector .vmem S256x128 .f32) (hA : A.IsWhole) (sg sw : DmaSems sig S_) (c : ℕ) (hc : c < 32)
    (k : TP F i) : TP F i :=
  .op (.waitDma2 sg.sem kS A (View.wordExact_bits rfl) hA.wordExact) fun _ =>
    .op (.enqueueDma A (.here (oS i c hc)) (.dma sw.sem) hA.wordExact (View.wordExact_bits rfl) ⟨Or.inl rfl, trivial⟩) fun _ => k

/-- The wait for a row buffer's copy to chunk `c` of the output, then `k`. -/
def done (i : grid0.Coords) (A : Memref sig .scVector .vmem S256x128 .f32) (hA : A.IsWhole) (sw : DmaSems sig S_) (c : ℕ) (hc : c < 32)
    (k : TP F i) : TP F i :=
  .op (.waitDma2 sw.sem A (oS i c hc) hA.wordExact (View.wordExact_bits rfl)) fun _ => k

/-- `n` double rounds from chunk `c` on, the two buffers taking turns, then `k`. -/
def rounds (i : grid0.Coords) (k : TP F i) (A : Memref sig .scVector .vmem S256x128 .f32) (hA : A.IsWhole)
    (B : Memref sig .scVector .vmem S256x128 .f32) (hB : B.IsWhole) (sgA sgB swA swB : DmaSems sig S_) : (n c : ℕ) → c + 2 * n < 31 → TP F i
  | 0, c, h => k
  | n + 1, c, h =>
    put i A hA sgA swA c (by omega) <| done i A hA swA c (by omega) <| gat i A sgA (c + 2) (by omega) <|
    put i B hB sgB swB (c + 1) (by omega) <| done i B hB swB (c + 1) (by omega) <| gat i B sgB (c + 3) (by omega) <|
    rounds i k A hA B hB sgA sgB swA swB n (c + 2) (by omega)

/-- The tail: both buffers' last chunks. -/
def tail (i : grid0.Coords) : TP F i :=
  put i bufA (Memref.isWhole_whole _) cc0_scratch4 cc0_scratch6 30 (by decide) <|
  put i bufB (Memref.isWhole_whole _) cc0_scratch5 cc0_scratch7 31 (by decide) <|
  done i bufA (Memref.isWhole_whole _) cc0_scratch6 30 (by decide) <|
  done i bufB (Memref.isWhole_whole _) cc0_scratch7 31 (by decide) <| .ret ⟨⟩

/-- The tile's own indices in the device's memory. -/
abbrev iB (i : grid0.Coords) : Memref sig .scVector .hbm S8192 .i32 :=
  iV.slice (Rect.unit (s := S262144) (k0_off1 i) S8192.size (k0_off1_inb i)) (fun _ => rfl)

/-- The index pass over the tile's raw indices. -/
def pass (i : grid0.Coords) : TP F i :=
  Scf.Loop.for k0_t1_loop k0_t1_ok ⟨⟩ (k0_t1_body (F := F) i iV (Memref.isWhole_whole _) kV (Memref.isWhole_whole _) oV (Memref.isWhole_whole _)
    rawV (Memref.isWhole_whole _) adjV (Memref.isWhole_whole _) bufA (Memref.isWhole_whole _) bufB (Memref.isWhole_whole _)
    cc0_scratch4 cc0_scratch5 cc0_scratch6 cc0_scratch7 cc0_scoped0)

/-- The program from the first gather on. -/
def stream (i : grid0.Coords) : TP F i :=
  gat i bufA cc0_scratch4 0 (by decide) <| gat i bufB cc0_scratch5 1 (by decide) <|
  rounds i (tail i) bufA (Memref.isWhole_whole _) bufB (Memref.isWhole_whole _) cc0_scratch4 cc0_scratch5 cc0_scratch6 cc0_scratch7 15 0 (by decide)

/-- The tile's program. -/
def prog (i : grid0.Coords) : TP F i :=
  .op (.enqueueDma (iB i) (.here rawV) (.dma cc0_scoped0.sem) (View.wordExact_bits rfl) (Memref.isWhole_whole _).wordExact ⟨Or.inl rfl, trivial⟩) fun _ =>
  .op (.waitDma2 cc0_scoped0.sem (iB i) rawV (View.wordExact_bits rfl) (Memref.isWhole_whole _).wordExact) fun _ =>
  pass i >>= fun _ => stream i

/-- The two first gathers, and the tile's base as the program returns it. -/
def lead (i : grid0.Coords) : Prog (TpuEff nD τ sig (Elt F) Λ₀ (.scVector ((i 0).castLE hcore0) ((i 1).castLE hsub0))) (BitVec 32) :=
  SparseCore.enqueueIndirectGather rfl kS bufA gathers_S32768x128_S256x128 (iS 0 (by decide)) rfl cc0_scratch4.sem (View.wordExact_bits rfl) rfl (Or.inl rfl) >>= fun _ =>
  SparseCore.enqueueIndirectGather rfl kS bufB gathers_S32768x128_S256x128 (iS 1 (by decide)) rfl cc0_scratch5.sem (View.wordExact_bits rfl) rfl (Or.inl rfl) >>= fun _ =>
  .ret (Scalar.muli (Scalar.addi (Scalar.muli (BitVec.ofNat 32 (i 1).val) 2#32) (BitVec.ofNat 32 (i 0).val)) 8192#32)

/-- It is the kernel's. -/
theorem prog_eq (i : grid0.Coords) : cc0__sc_gather_body (F := F) i iV (Memref.isWhole_whole _) kV (Memref.isWhole_whole _) oV (Memref.isWhole_whole _)
    rawV (Memref.isWhole_whole _) adjV (Memref.isWhole_whole _) bufA (Memref.isWhole_whole _) bufB (Memref.isWhole_whole _)
    cc0_scratch4 cc0_scratch5 cc0_scratch6 cc0_scratch7 cc0_scoped0 = prog i := by
  have h₁ : cc0__sc_gather_body (F := F) i iV (Memref.isWhole_whole _) kV (Memref.isWhole_whole _) oV (Memref.isWhole_whole _)
      rawV (Memref.isWhole_whole _) adjV (Memref.isWhole_whole _) bufA (Memref.isWhole_whole _) bufB (Memref.isWhole_whole _)
      cc0_scratch4 cc0_scratch5 cc0_scratch6 cc0_scratch7 cc0_scoped0 =
      .op (.enqueueDma (iB i) (.here rawV) (.dma cc0_scoped0.sem) (View.wordExact_bits rfl) (Memref.isWhole_whole _).wordExact ⟨Or.inl rfl, trivial⟩) fun _ =>
      .op (.waitDma2 cc0_scoped0.sem (iB i) rawV (View.wordExact_bits rfl) (Memref.isWhole_whole _).wordExact) fun _ =>
      (pass i >>= fun _ => lead i) >>= fun _ =>
      rounds i (tail i) bufA (Memref.isWhole_whole _) bufB (Memref.isWhole_whole _) cc0_scratch4 cc0_scratch5 cc0_scratch6 cc0_scratch7 15 0 (by decide) := by
    sl_kernel_rfl
  have h₂ : (lead (F := F) i >>= fun _ =>
      rounds i (tail i) bufA (Memref.isWhole_whole _) bufB (Memref.isWhole_whole _) cc0_scratch4 cc0_scratch5 cc0_scratch6 cc0_scratch7 15 0 (by decide)) = stream i := by
    sl_kernel_rfl
  rw [h₁, prog, ← h₂]
  simp only [bind_assoc]

end Cert.KernelIdeal.Hash
-- ==== Proof.KernelIdeal.TileWp.lean ====
/-
  The tile's gathers and copies, one lemma each, and by induction the fifteen double rounds of them, with values: what a
  chunk of the output holds afterwards is what the chunk of ONE function `G` is.
-/
module

public import proofs.«01_k».proof.Proof.KernelIdeal.TileProg

@[expose] public section

set_option maxRecDepth 16384

noncomputable section

namespace Cert.KernelIdeal.Hash

open Cert.KernelIdeal Cert.KernelIdeal.Gen
open Idealize.ShloMosaic Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]

local notation "𝕄" => MT nD τ sig (HIx 1) (Elt F) ℕ UU ℕ

/-- The SparseCore of the tile. -/
abbrev cV (i : grid0.Coords) : Fin τ.nSC := (i 0).castLE hcore0
/-- The tile's place on its SparseCore. -/
abbrev jV (i : grid0.Coords) : Fin τ.nSub := (i 1).castLE hsub0
/-- The tile's thread. -/
abbrev thr (d : Dev nD) (i : grid0.Coords) : Thread nD τ := V d (cV i) (jV i)

/-- The first output row of the tile, which is also the first of its indices. -/
def base (i : grid0.Coords) : ℕ := 16384 * (i 1).val + 8192 * (i 0).val

/-- The positions of chunk `c` in the tile's list. -/
def iRows (c : ℕ) : Finset S8192.Idx := Finset.univ.filter fun x => 256 * c ≤ (x 0).val ∧ (x 0).val < 256 * (c + 1)
/-- The places of chunk `c` of the output. -/
def oRows (i : grid0.Coords) (c : ℕ) : Finset S262144x128.Idx :=
  Finset.univ.filter fun y => base i + 256 * c ≤ (y 0).val ∧ (y 0).val < base i + 256 * (c + 1)

theorem iS_set (c : ℕ) (hc : c < 32) : (iS c hc).view.set = iRows c := by
  refine (View.set_slice_whole _ _).trans ?_
  ext x
  rw [Rect.mem_set_unit, iRows, Finset.mem_filter]
  simp only [Finset.mem_univ, true_and]
  constructor
  · intro h
    have h0 := h 0
    have h1 : 256 * c ≤ (x 0).val := h0.1
    have h2 : (x 0).val < 256 * c + 256 := h0.2
    exact ⟨h1, by omega⟩
  · intro h a
    match a with
    | ⟨0, _⟩ => exact ⟨h.1, show (x 0).val < 256 * c + 256 by omega⟩

theorem oS_set (i : grid0.Coords) (c : ℕ) (hc : c < 32) : (oS i c hc).view.set = oRows i c := by
  refine (View.set_slice_whole _ _).trans ?_
  ext y
  rw [Rect.mem_set_unit, oRows, Finset.mem_filter]
  have e := k0_off3_eq i ⟨c, hc⟩
  have e' : k0_off3 i (BitVec.ofNat 32 (256 * c)) = ![base i + 256 * c, 0] := e
  rw [e']
  simp only [Finset.mem_univ, true_and]
  constructor
  · intro h
    have h0 := h 0
    have h1 : base i + 256 * c ≤ (y 0).val := h0.1
    have h2 : (y 0).val < base i + 256 * c + 256 := h0.2
    exact ⟨h1, by omega⟩
  · intro h a
    match a with
    | ⟨0, _⟩ => exact ⟨h.1, show (y 0).val < base i + 256 * c + 256 by omega⟩
    | ⟨1, _⟩ => exact ⟨Nat.zero_le _, show (y 1).val < 0 + 128 from (Nat.zero_add 128).symm ▸ (show (y 1).val < 128 from (y 1).isLt)⟩

section
variable (d : Dev nD) (i : grid0.Coords)
variable (kv : Buf (Elt F) (kV.view.loc (thr d i))) (ia : Buf (Elt F) (adjV.view.loc (thr d i)))
variable (o0 G : Buf (Elt F) (oV.view.loc (thr d i)))

/-- A share of the table. -/
abbrev kPt (q : PosShare TreeShare) : sProp 𝕄 := (kS).view.loc (thr d i) ↦[(kS).view.set]{q} kv
/-- The indices of chunk `c`. -/
abbrev iPt (c : ℕ) : sProp 𝕄 := (adjV).view.loc (thr d i) ↦[iRows c]{fullShare} ia
/-- Chunk `c` of the output at `f`. -/
abbrev oPt (f : Buf (Elt F) (oV.view.loc (thr d i))) (c : ℕ) : sProp 𝕄 := (oV).view.loc (thr d i) ↦[oRows i c]{fullShare} f
/-- A row buffer at `f`. -/
abbrev bPt (A : Memref sig .scVector .vmem S256x128 .f32) (f : Buf (Elt F) (A.view.loc (thr d i))) : sProp 𝕄 :=
  A.view.loc (thr d i) ↦[A.view.set]{fullShare} f

/-- Every index of the list names a row of the table. -/
def InB : Prop := ∀ (c : ℕ) (hc : c < 32), ∀ x, ((iS c hc).view.read (Elt F) ia x).toNat < S32768x128.size gathers_S32768x128_S256x128.axis

/-- What chunk `c`'s gather brings. -/
def pay (hin : InB d i ia) (c : ℕ) (hc : c < 32) : S256x128.Idx → Elt F .f32 :=
  SparseCore.gatherPayload gathers_S32768x128_S256x128 ((kS).view.read (Elt F) kv) (SparseCore.rows ((iS c hc).view.read (Elt F) ia) rfl (hin c hc))

variable (hin : InB d i ia)

/-- A gather of chunk `c` in flight. -/
def gFl (A : Memref sig .scVector .vmem S256x128 .f32) (sg : DmaSems sig S_) (q : PosShare TreeShare) (c : ℕ) (hc : c < 32) : sProp 𝕄 :=
  iprop(∃ f, Transfers.Flight countersEmb (thr d i) (.dma sg.sem) (default : HIx 1) A.view.dmaCredit
    iprop(bPt d i A (A.view.write (Elt F) f (pay d i kv ia hin c hc) Finset.univ) ∗ kPt d i kv q ∗ iPt d i ia c))

/-- A copy of chunk `c` in flight. -/
def oFl (A : Memref sig .scVector .vmem S256x128 .f32) (sw : DmaSems sig S_) (c : ℕ) (hc : c < 32) : sProp 𝕄 :=
  iprop(∃ f, Transfers.Flight countersEmb (thr d i) (.dma sw.sem) (default : HIx 1) (oS i c hc).view.dmaCredit
    iprop(oPt d i G c ∗ bPt d i A f))

/-- The waits so far are the ones before and the tile's own. -/
def okW (W W' : Waits sig (HIx 1)) : Prop := ∀ p ∈ W', p ∈ W ∨ p.2 = none

theorem okW_insert {W W' : Waits sig (HIx 1)} (h : okW W W') (sm : SemLoc sig) : okW W (insert (sm, (default : HIx 1)) W') := by
  intro p hp
  rcases Finset.mem_insert.mp hp with hp | hp
  · exact .inr (hp ▸ rfl)
  · exact h p hp

/-- The gather's step. -/
theorem gat_wp (Q : PUnit → sProp 𝕄) (A : Memref sig .scVector .vmem S256x128 .f32)
    (hN : ∀ h : S32768x128.Gathers 0 S256x128, ∑ j, (A.slice (S256x128.rowRect h.axis' j) (S256x128.stride_rowRect h.axis' j)).view.dmaCredit = A.view.dmaCredit)
    (sg : DmaSems sig S_) (q : PosShare TreeShare) (c : ℕ) (hc : c < 32) (f : Buf (Elt F) (A.view.loc (thr d i))) (k : TP F i) :
    iprop(kPt d i kv q ∗ bPt d i A f ∗ iPt d i ia c ∗ semVal (thr d i, SemLoc.dma sg.sem) 0)
      ⊢ iprop((gFl d i kv ia hin A sg q c hc -∗ wp frame (wpE (defs₀ (F := F)) 𝒱₀ (thr d i) none) Set.univ k Q)
        -∗ wp frame (wpE (defs₀ (F := F)) 𝒱₀ (thr d i) none) Set.univ (gat i A sg c hc k) Q) := by
  unfold gat
  iintro ⟨Hk, Hb, Hi, Hs⟩ Hc
  ihave Hi' := (Entails.of_eq (show iPt d i ia c = ((iS c hc).view.loc (thr d i) ↦[(iS c hc).view.set]{fullShare} ia : sProp 𝕄) by rw [iS_set])) $$ Hi
  iapply (SparseCore.wp_indirectGatherLocal countersEmb 𝒱₀ (thr d i) none (hg := gathers_S32768x128_S256x128) (default : HIx 1)
      A.view.dmaCredit (hN _) (by decide) (hin c hc)) $$ [Hk Hb Hi' Hs]
  · isplitl [Hk]; · iexact Hk
    isplitl [Hb]; · iexact Hb
    isplitl [Hi']; · iexact Hi'
    iexact Hs
  iintro Hf
  iapply Hc
  unfold gFl
  iexists f
  ihave Hf' := (Entails.of_eq (show _ = Transfers.Flight countersEmb (thr d i) (.dma sg.sem) (default : HIx 1) A.view.dmaCredit
    iprop(bPt d i A (A.view.write (Elt F) f (pay d i kv ia hin c hc) Finset.univ) ∗ kPt d i kv q ∗ iPt d i ia c) by
      unfold pay iPt; rw [← iS_set c hc])) $$ Hf
  iexact Hf'

/-- Two contents a view reads alike agree at its elements. -/
theorem eq_on_of_read {κ : Kind} {sp : Space} {s : Shape} {e : EltTy} (v : View sig κ sp s e) (f g : v.ty.Contents (Elt F))
    (h : v.read (Elt F) f = v.read (Elt F) g) : ∀ y ∈ v.set, f y = g y := by
  intro y hy
  obtain ⟨x, -, rfl⟩ := Finset.mem_map.mp hy
  have := congrFun h x
  rw [View.read_apply, View.read_apply] at this
  exact (cast_inj _).mp this

/-- The step of the wait for a gather and of the copy out. -/
theorem put_wp (Q : PUnit → sProp 𝕄) (A : Memref sig .scVector .vmem S256x128 .f32) (hA : A.IsWhole) (sg sw : DmaSems sig S_) (q : PosShare TreeShare) (c : ℕ) (hc : c < 32)
    (hG : (oS i c hc).view.read (Elt F) G = pay d i kv ia hin c hc)
    (O : CellTallies nD τ sig (HIx 1)) (W : Waits sig (HIx 1)) (k : TP F i) :
    iprop(gFl d i kv ia hin A sg q c hc ∗ oPt d i o0 c ∗ semVal (thr d i, SemLoc.dma sw.sem) 0 ∗ owes (thr d i) O W
        ∗ Transfers.MayWaits (thr d i) (default : HIx 1) O)
      ⊢ iprop((oFl d i G A sw c hc ∗ kPt d i kv q ∗ iPt d i ia c ∗ semVal (thr d i, SemLoc.dma sg.sem) 0
            ∗ owes (thr d i) O (insert (SemLoc.dma sg.sem, (default : HIx 1)) W)
          -∗ wp frame (wpE (defs₀ (F := F)) 𝒱₀ (thr d i) none) Set.univ k Q)
        -∗ wp frame (wpE (defs₀ (F := F)) 𝒱₀ (thr d i) none) Set.univ (put i A hA sg sw c hc k) Q) := by
  unfold put gFl
  iintro ⟨⟨%f, Hf⟩, Ho, Hs, HO, #Hmw⟩ Hc
  iapply (Transfers.wp_waitLocalO countersEmb 𝒱₀ (thr d i) none (default : HIx 1) (rfl : A.view.dmaCredit = _)) $$ [Hf HO]
  · isplitl [Hf]; · iexact Hf
    isplitl [HO]; · iexact HO
    iapply (Transfers.MayWaits.elim (SemLoc.dma sg.sem)) $$ Hmw
  iintro ⟨⟨Hb, Hk, Hi⟩, Hsg, HO⟩
  ihave Ho' := (Entails.of_eq (show oPt d i o0 c = ((oS i c hc).view.loc (thr d i) ↦[(oS i c hc).view.set]{fullShare} o0 : sProp 𝕄) by rw [oS_set])) $$ Ho
  iapply (Transfers.wp_dmaLocal countersEmb 𝒱₀ (thr d i) none (default : HIx 1) (oS i c hc).view.dmaCredit rfl
    (View.dmaCredit_pos _ (by decide)) (Finset.Subset.refl _)) $$ [Hb Ho' Hs]
  · isplitl [Hb]; · iexact Hb
    isplitl [Ho']; · iexact Ho'
    iexact Hs
  iintro Hf
  iapply Hc
  isplitl [Hf]
  · unfold oFl
    iexists _
    have e : ((oS i c hc).view.loc (thr d i) ↦[(oS i c hc).view.set]{fullShare}
        ((oS i c hc).view.write (Elt F) o0 (ReadAs.same.apply (A.view.read (Elt F) (A.view.write (Elt F) f (pay d i kv ia hin c hc) Finset.univ))) Finset.univ) : sProp 𝕄)
        = oPt d i G c := by
      have h2 : (oS i c hc).view.read (Elt F) ((oS i c hc).view.write (Elt F) o0
          (ReadAs.same.apply (A.view.read (Elt F) (A.view.write (Elt F) f (pay d i kv ia hin c hc) Finset.univ))) Finset.univ)
          = (oS i c hc).view.read (Elt F) G := by
        rw [View.read_write_univ, hG]
        exact View.read_write_univ _ _
      exact (pointsTo_congr fun y hy => eq_on_of_read (oS i c hc).view _ G h2 y hy).trans (by rw [oS_set])
    ihave Hf' := (Entails.of_eq (congrArg (fun z => Transfers.Flight countersEmb (thr d i) (.dma sw.sem) (default : HIx 1) (oS i c hc).view.dmaCredit
      iprop(z ∗ bPt d i A (A.view.write (Elt F) f (pay d i kv ia hin c hc) Finset.univ))) e)) $$ Hf
    iexact Hf'
  isplitl [Hk]; · iexact Hk
  isplitl [Hi]; · iexact Hi
  isplitl [Hsg]; · iexact Hsg
  iexact HO

/-- The step of the wait for a copy. -/
theorem done_wp (Q : PUnit → sProp 𝕄) (A : Memref sig .scVector .vmem S256x128 .f32) (hA : A.IsWhole) (sw : DmaSems sig S_) (c : ℕ) (hc : c < 32)
    (O : CellTallies nD τ sig (HIx 1)) (W : Waits sig (HIx 1)) (k : TP F i) :
    iprop(oFl d i G A sw c hc ∗ owes (thr d i) O W ∗ Transfers.MayWaits (thr d i) (default : HIx 1) O)
      ⊢ iprop((oPt d i G c ∗ (∃ f, bPt d i A f) ∗ semVal (thr d i, SemLoc.dma sw.sem) 0
            ∗ owes (thr d i) O (insert (SemLoc.dma sw.sem, (default : HIx 1)) W)
          -∗ wp frame (wpE (defs₀ (F := F)) 𝒱₀ (thr d i) none) Set.univ k Q)
        -∗ wp frame (wpE (defs₀ (F := F)) 𝒱₀ (thr d i) none) Set.univ (done i A hA sw c hc k) Q) := by
  unfold done oFl
  iintro ⟨⟨%f, Hf⟩, HO, #Hmw⟩ Hc
  iapply (Transfers.wp_waitLocalO countersEmb 𝒱₀ (thr d i) none (default : HIx 1) (rfl : (oS i c hc).view.dmaCredit = _)) $$ [Hf HO]
  · isplitl [Hf]; · iexact Hf
    isplitl [HO]; · iexact HO
    iapply (Transfers.MayWaits.elim (SemLoc.dma sw.sem)) $$ Hmw
  iintro ⟨⟨Ho, Hb⟩, Hs, HO⟩
  iapply Hc
  isplitl [Ho]; · iexact Ho
  isplitl [Hb]; · iexists f; iexact Hb
  isplitl [Hs]; · iexact Hs
  iexact HO

omit [FloatOps F] in
/-- The first of a run of consecutive pieces apart. -/
theorem bigSep_first (Φ : ℕ → sProp 𝕄) (a n : ℕ) : bigSep (Finset.Ico a (a + (n + 1))) Φ = iprop(Φ a ∗ bigSep (Finset.Ico (a + 1) (a + 1 + n)) Φ) := by
  rw [show Finset.Ico a (a + (n + 1)) = insert a (Finset.Ico (a + 1) (a + 1 + n)) by
    ext x; simp only [Finset.mem_Ico, Finset.mem_insert]; omega]
  exact SparseCore.bigSep_insert' (by simp)

omit [FloatOps F] in
/-- The last of the first pieces apart. -/
theorem bigSep_last (Φ : ℕ → sProp 𝕄) (n : ℕ) : bigSep (Finset.range (n + 1)) Φ = iprop(Φ n ∗ bigSep (Finset.range n) Φ) := by
  rw [show Finset.range (n + 1) = insert n (Finset.range n) by
    ext x; simp only [Finset.mem_range, Finset.mem_insert]; omega]
  exact SparseCore.bigSep_insert' (by simp)

/-- What holds between two double rounds: both buffers' gathers in flight, the chunks before `c` written, those from `c` on
    not. -/
def between (O : CellTallies nD τ sig (HIx 1)) (W : Waits sig (HIx 1)) (A B : Memref sig .scVector .vmem S256x128 .f32) (sgA sgB swA swB : DmaSems sig S_)
    (qA qB : PosShare TreeShare) (n c : ℕ) (h : c + 2 * n < 31) : sProp 𝕄 :=
  iprop(gFl d i kv ia hin A sgA qA c (by omega) ∗ gFl d i kv ia hin B sgB qB (c + 1) (by omega)
    ∗ semVal (thr d i, SemLoc.dma swA.sem) 0 ∗ semVal (thr d i, SemLoc.dma swB.sem) 0
    ∗ bigSep (Finset.Ico (c + 2) (c + 2 + 2 * n)) (iPt d i ia) ∗ bigSep (Finset.range c) (iPt d i ia)
    ∗ bigSep (Finset.Ico c (c + (2 * n + 2))) (oPt d i o0) ∗ bigSep (Finset.range c) (oPt d i G)
    ∗ ∃ W', ⌜okW W W'⌝ ∗ owes (thr d i) O W')

/-- The double rounds, by induction. -/
theorem rounds_wp (Q : PUnit → sProp 𝕄) (A B : Memref sig .scVector .vmem S256x128 .f32) (hA : A.IsWhole) (hB : B.IsWhole)
    (hNA : ∀ h : S32768x128.Gathers 0 S256x128, ∑ j, (A.slice (S256x128.rowRect h.axis' j) (S256x128.stride_rowRect h.axis' j)).view.dmaCredit = A.view.dmaCredit)
    (hNB : ∀ h : S32768x128.Gathers 0 S256x128, ∑ j, (B.slice (S256x128.rowRect h.axis' j) (S256x128.stride_rowRect h.axis' j)).view.dmaCredit = B.view.dmaCredit)
    (sgA sgB swA swB : DmaSems sig S_) (qA qB : PosShare TreeShare)
    (hG : ∀ c hc, (oS i c hc).view.read (Elt F) G = pay d i kv ia hin c hc)
    (O : CellTallies nD τ sig (HIx 1)) (W : Waits sig (HIx 1)) (k : TP F i) : ∀ (n c : ℕ) (h : c + 2 * n < 31),
    iprop(between d i kv ia o0 G hin O W A B sgA sgB swA swB qA qB n c h ∗ Transfers.MayWaits (thr d i) (default : HIx 1) O)
      ⊢ iprop((between d i kv ia o0 G hin O W A B sgA sgB swA swB qA qB 0 (c + 2 * n) (by omega)
          -∗ wp frame (wpE (defs₀ (F := F)) 𝒱₀ (thr d i) none) Set.univ k Q)
        -∗ wp frame (wpE (defs₀ (F := F)) 𝒱₀ (thr d i) none) Set.univ (rounds i k A hA B hB sgA sgB swA swB n c h) Q)
  | 0, c, h => by
    iintro ⟨H, -⟩ Hc
    iapply Hc
    iexact H
  | n + 1, c, h => by
    unfold rounds
    conv_lhs => unfold between
    rw [show c + 2 + 2 * (n + 1) = c + 2 + (2 * n + 1 + 1) from rfl, bigSep_first, bigSep_first, show c + (2 * (n + 1) + 2) = c + (2 * n + 2 + 1 + 1) from rfl,
      bigSep_first, bigSep_first]
    iintro ⟨⟨HgA, HgB, HsA, HsB, ⟨Hi2, Hi3, Hin⟩, Hid, ⟨Ho0, Ho1, Hon⟩, Hod, ⟨%W', %hW, HO⟩⟩, #Hmw⟩ Hc
    iapply (put_wp d i kv ia o0 G hin Q A hA sgA swA qA c _ (hG _ _) O W') $$ [HgA Ho0 HsA HO]
    · isplitl [HgA]; · iexact HgA
      isplitl [Ho0]; · iexact Ho0
      isplitl [HsA]; · iexact HsA
      isplitl [HO]; · iexact HO
      iexact Hmw
    iintro ⟨HoA, HkA, HiA, HsgA, HO⟩
    iapply (done_wp d i G Q A hA swA c _ O _) $$ [HoA HO]
    · isplitl [HoA]; · iexact HoA
      isplitl [HO]; · iexact HO
      iexact Hmw
    iintro ⟨Ho0, ⟨%fA, HbA⟩, HsA, HO⟩
    iapply (gat_wp d i kv ia hin Q A hNA sgA qA (c + 2) _ fA) $$ [HkA HbA Hi2 HsgA]
    · isplitl [HkA]; · iexact HkA
      isplitl [HbA]; · iexact HbA
      isplitl [Hi2]; · iexact Hi2
      iexact HsgA
    iintro HgA
    iapply (put_wp d i kv ia o0 G hin Q B hB sgB swB qB (c + 1) _ (hG _ _) O _) $$ [HgB Ho1 HsB HO]
    · isplitl [HgB]; · iexact HgB
      isplitl [Ho1]; · iexact Ho1
      isplitl [HsB]; · iexact HsB
      isplitl [HO]; · iexact HO
      iexact Hmw
    iintro ⟨HoB, HkB, HiB, HsgB, HO⟩
    iapply (done_wp d i G Q B hB swB (c + 1) _ O _) $$ [HoB HO]
    · isplitl [HoB]; · iexact HoB
      isplitl [HO]; · iexact HO
      iexact Hmw
    iintro ⟨Ho1, ⟨%fB, HbB⟩, HsB, HO⟩
    iapply (gat_wp d i kv ia hin Q B hNB sgB qB (c + 3) _ fB) $$ [HkB HbB Hi3 HsgB]
    · isplitl [HkB]; · iexact HkB
      isplitl [HbB]; · iexact HbB
      isplitl [Hi3]; · iexact Hi3
      iexact HsgB
    iintro HgB
    iapply (rounds_wp Q A B hA hB hNA hNB sgA sgB swA swB qA qB hG O W k n (c + 2) _) $$ [HgA HgB HsA HsB Hin Hid HiA HiB Hon Hod Ho0 Ho1 HO]
    · isplitl [HgA HgB HsA HsB Hin Hid HiA HiB Hon Hod Ho0 Ho1 HO]
      swap; · iexact Hmw
      unfold between
      rw [show Finset.range (c + 2) = Finset.range (c + 1 + 1) from rfl, bigSep_last, bigSep_last, bigSep_last, bigSep_last]
      isplitl [HgA]; · iexact HgA
      isplitl [HgB]; · iexact HgB
      isplitl [HsA]; · iexact HsA
      isplitl [HsB]; · iexact HsB
      isplitl [Hin]; · iexact Hin
      isplitl [Hid HiA HiB]
      · isplitl [HiB]; · iexact HiB
        isplitl [HiA]; · iexact HiA
        iexact Hid
      isplitl [Hon]; · iexact Hon
      isplitl [Hod Ho0 Ho1]
      · isplitl [Ho1]; · iexact Ho1
        isplitl [Ho0]; · iexact Ho0
        iexact Hod
      iexists _
      isplitr
      swap; · iexact HO
      ipureintro
      exact okW_insert (okW_insert (okW_insert (okW_insert hW _) _) _) _
    iintro H
    iapply Hc
    ihave H' := (Entails.of_eq (show between d i kv ia o0 G hin O W A B sgA sgB swA swB qA qB 0 (c + 2 + 2 * n) _
      = between d i kv ia o0 G hin O W A B sgA sgB swA swB qA qB 0 (c + 2 * (n + 1)) (by omega) from by
        congr 1; omega)) $$ H
    iexact H'

end

end Cert.KernelIdeal.Hash
-- ==== Proof.KernelIdeal.TilePass.lean ====
/-
  The tile's index pass: 512 trips of sixteen lanes, each index masked to its low thirteen bits and moved to its batch's part
  of the table.
-/
module

public import proofs.«01_k».proof.Proof.KernelIdeal.TileWp
public import Idealize.ShloMosaic.Lib.Pointwise

@[expose] public section

set_option maxRecDepth 16384

noncomputable section

namespace Cert.KernelIdeal.Hash

open Cert.KernelIdeal Cert.KernelIdeal.Gen
open Idealize.ShloMosaic Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]

local notation "𝕄" => MT nD τ sig (HIx 1) (Elt F) ℕ UU ℕ

/-- The first table row of the tile's batch. -/
def boff (i : grid0.Coords) : ℕ := (2 * (i 1).val + (i 0).val) / 8 * 8192

/-- An index as the pass leaves it. -/
def adjW (i : grid0.Coords) (w : BitVec 32) : BitVec 32 := (w &&& 8191#32) + BitVec.ofNat 32 (boff i)

/-- The pass's store, lane by lane. -/
theorem pay1_apply (i : grid0.Coords) (v : Vec F S16 .i32) (x : S16.Idx) : k0_pay1 i v x = adjW i (v x) := by
  have h : ∀ a : Fin 2, ∀ b : Fin 16, (
      let v1 : BitVec 32 := Scalar.addi (Scalar.muli (BitVec.ofNat 32 b.val) 2#32) (BitVec.ofNat 32 a.val)
      Scalar.muli (Scalar.select (Scalar.andi (Scalar.cmpi .ne (Scalar.subi (Scalar.extui (Scalar.cmpi .sgt v1 0#32) : BitVec 32) (Scalar.extui (Scalar.cmpi .slt v1 0#32)))
        (Scalar.subi (Scalar.extui (Scalar.cmpi .sgt 8#32 0#32) : BitVec 32) (Scalar.extui (Scalar.cmpi .slt 8#32 0#32)))) (Scalar.cmpi .ne (Scalar.remsi v1 8#32) 0#32))
        (Scalar.subi (Scalar.divsi v1 8#32) 1#32) (Scalar.divsi v1 8#32)) 8192#32) = BitVec.ofNat 32 ((2 * b.val + a.val) / 8 * 8192) := by
    decide +kernel
  have hi := h (i 0) (i 1)
  pointwise [k0_pay1]
  exact congrArg (fun z => (v x &&& 8191#32) + z) hi

variable (d : Dev nD) (i : grid0.Coords)

/-- The tile's list after the pass over the raw indices `r`. -/
def adjC (r : Buf (Elt F) (rawV.view.loc (thr d i))) : Buf (Elt F) (adjV.view.loc (thr d i)) := fun x => adjW i (r x)

/-- The raw indices at `r`. -/
abbrev rPt (r : Buf (Elt F) (rawV.view.loc (thr d i))) : sProp 𝕄 := (rawV).view.loc (thr d i) ↦{fullShare} r
/-- The list at `f`. -/
abbrev aPt (f : Buf (Elt F) (adjV.view.loc (thr d i))) : sProp 𝕄 := (adjV).view.loc (thr d i) ↦{fullShare} f

/-- Between two trips: the list is done below position `16 n`. -/
def inv (r : Buf (Elt F) (rawV.view.loc (thr d i))) (n : ℕ) (_ : PUnit) : sProp 𝕄 :=
  iprop(rPt d i r ∗ ∃ f, ⌜∀ x : S8192.Idx, (x 0).val < 16 * n → f x = adjC d i r x⌝ ∗ aPt d i f)

/-- What a trip stores. -/
def step (t : Fin k0_t1_loop.trips) (r : Buf (Elt F) (rawV.view.loc (thr d i))) (f : Buf (Elt F) (adjV.view.loc (thr d i))) :
    Buf (Elt F) (adjV.view.loc (thr d i)) :=
  adjV.view.writes (Elt F) f [⟨Rect.unit (s := S8192) (k0_off2 t) S16.size (k0_off2_inb t),
    k0_pay1 i (View.readAt (Elt F) rawV.view (Rect.unit (s := S8192) (k0_off2 t) S16.size (k0_off2_inb t)).toLoadRect r)⟩]

theorem mem_trip (t : Fin k0_t1_loop.trips) (x : S8192.Idx) :
    x ∈ (Rect.unit (s := S8192) (k0_off2 t) S16.size (k0_off2_inb t)).set ↔ 16 * t.val ≤ (x 0).val ∧ (x 0).val < 16 * t.val + 16 := by
  rw [Rect.mem_set_unit, k0_off2_eq]
  constructor
  · intro h; exact h 0
  · intro h a
    match a with
    | ⟨0, _⟩ => exact h

/-- One trip more of the list is done. -/
theorem step_spec (t : Fin k0_t1_loop.trips) (r : Buf (Elt F) (rawV.view.loc (thr d i))) (f : Buf (Elt F) (adjV.view.loc (thr d i)))
    (hf : ∀ x : S8192.Idx, (x 0).val < 16 * t.val → f x = adjC d i r x) (x : S8192.Idx) (hx : (x 0).val < 16 * (t.val + 1)) :
    step d i t r f x = adjC d i r x := by
  show (adjV).view.read (Elt F) (step d i t r f) x = adjC d i r x
  unfold step
  by_cases h : 16 * t.val ≤ (x 0).val
  · refine View.read_writes_apply_of_pieces (adjV).view f (adjC d i r) _ ?_ x ?_
    · intro p hp y
      obtain rfl := List.mem_singleton.mp hp
      exact pay1_apply i _ y
    · exact ⟨_, List.mem_singleton.mpr rfl, (mem_trip t x).mpr ⟨h, by omega⟩⟩
  · rw [View.read_writes_apply_of_forall_not_mem]
    · exact hf x (by omega)
    · intro p hp hm
      obtain rfl := List.mem_singleton.mp hp
      exact h ((mem_trip t x).mp hm).1

/-- A trip. -/
theorem trip_wp (t : Fin k0_t1_loop.trips) (r : Buf (Elt F) (rawV.view.loc (thr d i))) (u : PUnit) :
    inv d i r t.val u
      ⊢ wp frame (wpE (defs₀ (F := F)) 𝒱₀ (thr d i) none) Set.univ
        (k0_t1_body (F := F) i iV (Memref.isWhole_whole _) kV (Memref.isWhole_whole _) oV (Memref.isWhole_whole _)
          rawV (Memref.isWhole_whole _) adjV (Memref.isWhole_whole _) bufA (Memref.isWhole_whole _) bufB (Memref.isWhole_whole _)
          cc0_scratch4 cc0_scratch5 cc0_scratch6 cc0_scratch7 cc0_scoped0 t u)
        (inv d i r (t.val + 1)) := by
  unfold k0_t1_body
  conv_lhs => unfold inv
  iintro ⟨Hr, %f, %hf, Hf⟩
  sl_exec
  sl_step
  unfold inv
  isplitl [Hr]; · iexact Hr
  iexists (step d i t r f)
  isplitr
  · ipureintro; exact step_spec d i t r f hf
  iexact Hf

/-- The pass. -/
theorem pass_wp (Q : PUnit → sProp 𝕄) (r : Buf (Elt F) (rawV.view.loc (thr d i))) (k : TP F i) :
    iprop(rPt d i r ∗ ∃ f, aPt d i f)
      ⊢ iprop((rPt d i r ∗ aPt d i (adjC d i r) -∗ wp frame (wpE (defs₀ (F := F)) 𝒱₀ (thr d i) none) Set.univ k Q)
        -∗ wp frame (wpE (defs₀ (F := F)) 𝒱₀ (thr d i) none) Set.univ (pass i >>= fun _ => k) Q) := by
  unfold pass
  iintro ⟨Hr, %f, Hf⟩ Hk
  iapply (Scf.wp_for_bind _ _ _ k0_t1_loop.lb k0_t1_loop.ub k0_t1_loop.st k0_t1_ok ⟨⟩ _ (inv d i r) (fun t u => trip_wp d i t r u)) $$ [Hr Hf]
  · unfold inv
    isplitl [Hr]; · iexact Hr
    iexists f
    isplitr
    · ipureintro; intro x hx; omega
    iexact Hf
  iintro %u H
  ihave H := (Entails.of_eq (show inv d i r (Scf.trips k0_t1_loop.lb k0_t1_loop.ub k0_t1_loop.st) u
    = iprop(rPt d i r ∗ ∃ f, ⌜∀ x : S8192.Idx, (x 0).val < 16 * Scf.trips k0_t1_loop.lb k0_t1_loop.ub k0_t1_loop.st → f x = adjC d i r x⌝ ∗ aPt d i f) from rfl)) $$ H
  icases H with ⟨Hr, %g, %hg, Hg⟩
  iapply Hk
  isplitl [Hr]; · iexact Hr
  have e : g = adjC d i r := funext fun x => hg x (by
    have h : (x 0).val < 8192 := (x 0).isLt
    have h' : Scf.trips k0_t1_loop.lb k0_t1_loop.ub k0_t1_loop.st = 512 := by decide +kernel
    omega)
  subst e
  iexact Hg

end Cert.KernelIdeal.Hash
-- ==== Proof.KernelIdeal.Tile.lean ====
/-
  The tile's task with its value: the rows of its part of the output are the table's rows its indices name.
-/
module

public import proofs.«01_k».proof.Proof.KernelIdeal.TilePass

@[expose] public section

set_option maxRecDepth 16384

noncomputable section

namespace Cert.KernelIdeal.Hash

open Cert.KernelIdeal Cert.KernelIdeal.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The indices in the device's memory. -/
abbrev iLoc (d : Dev nD) : Loc nD τ sig := (SparseCore.T d).loc main_v2
/-- The table in the device's memory. -/
abbrev kLoc (d : Dev nD) : Loc nD τ sig := (SparseCore.T d).loc main_v1
/-- The gathered rows in the device's memory. -/
abbrev oLoc (d : Dev nD) : Loc nD τ sig := (SparseCore.T d).loc main_v3

/-- The table row that output row `R` is: the index's low thirteen bits, in the part of `R`'s batch. -/
theorem row_lt (w : BitVec 32) (R : ℕ) (hR : R < 262144) : w.toNat % 8192 + R / 65536 * 8192 < 32768 := by
  have := Nat.mod_lt w.toNat (show 0 < 8192 by decide)
  omega

/-- The gathered rows as one function of the table and the indices. -/
def gath {d : Dev nD} (kv : Buf (Elt F) (kLoc d)) (ix : Buf (Elt F) (iLoc d)) : Buf (Elt F) (oLoc d) :=
  fun (y : S262144x128.Idx) => kv (ix2 (n0 := 32768) (n1 := 128)
    ⟨(show BitVec 32 from ix (ix1 (n0 := 262144) ⟨(y 0).val, (y 0).isLt⟩)).toNat % 8192 + (y 0).val / 65536 * 8192, row_lt _ _ (y 0).isLt⟩ ⟨(y 1).val, (y 1).isLt⟩)

section Tile
variable (d : Dev nD) (i : grid0.Coords)

/-- The tile's part of the indices. -/
def iTile : Finset S262144.Idx := Finset.univ.filter fun x => base i ≤ (x 0).val ∧ (x 0).val < base i + 8192
/-- The tile's part of the output. -/
def oTile : Finset S262144x128.Idx := Finset.univ.filter fun y => base i ≤ (y 0).val ∧ (y 0).val < base i + 8192

theorem iB_set : (iB i).view.set = iTile i := by
  refine (View.set_slice_whole _ _).trans ?_
  ext x
  rw [Rect.mem_set_unit, iTile, Finset.mem_filter, k0_off1_eq]
  simp only [Finset.mem_univ, true_and]
  constructor
  · intro h; exact h 0
  · intro h a
    match a with
    | ⟨0, _⟩ => exact h

theorem kS_set : (kS).view.set = Finset.univ := by
  refine (View.set_slice_whole _ _).trans ?_
  ext x
  simp only [Finset.mem_univ, iff_true]
  rw [Rect.mem_set_unit]
  intro a
  match a with
  | ⟨0, _⟩ => exact ⟨Nat.zero_le _, (Nat.zero_add 32768).symm ▸ (show (x 0).val < 32768 from (x 0).isLt)⟩
  | ⟨1, _⟩ => exact ⟨Nat.zero_le _, (Nat.zero_add 128).symm ▸ (show (x 1).val < 128 from (x 1).isLt)⟩

theorem oTile_eq : oTile i = (Finset.range 32).biUnion (oRows i) := by
  ext y
  simp only [oTile, oRows, Finset.mem_filter, Finset.mem_univ, true_and, Finset.mem_biUnion, Finset.mem_range]
  constructor
  · intro h; exact ⟨((y 0).val - base i) / 256, by omega, by omega, by omega⟩
  · rintro ⟨c, hc, h⟩; omega

theorem iRows_univ : (Finset.univ : Finset S8192.Idx) = (Finset.range 32).biUnion iRows := by
  ext x
  simp only [iRows, Finset.mem_filter, Finset.mem_univ, true_and, Finset.mem_biUnion, Finset.mem_range, true_iff]
  have h : (x 0).val < 8192 := (x 0).isLt
  exact ⟨(x 0).val / 256, by omega, by omega, by omega⟩

omit [FloatOps F] in
theorem oTile_pts (f : Buf (Elt F) (oV.view.loc (thr d i))) :
    ((oV).view.loc (thr d i) ↦[oTile i]{fullShare} f : sProp 𝕄) = bigSep (Finset.range 32) (oPt d i f) := by
  rw [oTile_eq]
  refine pointsTo_biUnion (ℓ := (oV).view.loc (thr d i)) _ _ fun t _ t' _ h => ?_
  rw [Finset.disjoint_left]
  intro y hy hy'
  simp only [oRows, Finset.mem_filter, Finset.mem_univ, true_and] at hy hy'
  omega

omit [FloatOps F] in
theorem adj_pts (f : Buf (Elt F) (adjV.view.loc (thr d i))) : (aPt d i f : sProp 𝕄) = bigSep (Finset.range 32) (iPt d i f) := by
  unfold aPt
  rw [show (Finset.univ : Finset (Idx ((adjV).view.loc (thr d i)))) = (Finset.range 32).biUnion iRows from iRows_univ]
  refine pointsTo_biUnion (ℓ := (adjV).view.loc (thr d i)) _ _ fun t _ t' _ h => ?_
  rw [Finset.disjoint_left]
  intro y hy hy'
  simp only [iRows, Finset.mem_filter, Finset.mem_univ, true_and] at hy hy'
  omega

omit [FloatOps F] in
theorem bigSep_range_eq_Ico (Φ : ℕ → sProp 𝕄) : bigSep (Finset.range 32) Φ = bigSep (Finset.Ico 0 (0 + (31 + 1))) Φ := by
  rw [Finset.range_eq_Ico]

omit [FloatOps F] in
theorem bigSep_first2 (Φ : ℕ → sProp 𝕄) : bigSep (Finset.Ico 0 (0 + (31 + 1))) Φ = iprop(Φ 0 ∗ Φ 1 ∗ bigSep (Finset.Ico 2 (2 + 30)) Φ) := by
  rw [bigSep_first, show 0 + 1 + 31 = 0 + 1 + (30 + 1) from rfl, bigSep_first]

omit [FloatOps F] in
theorem bigSep_last2 (Φ : ℕ → sProp 𝕄) : bigSep (Finset.range 32) Φ = iprop(Φ 31 ∗ Φ 30 ∗ bigSep (Finset.range 30) Φ) := by
  rw [show (32 : ℕ) = 31 + 1 from rfl, bigSep_last, show (31 : ℕ) = 30 + 1 from rfl, bigSep_last]

theorem adjW_toNat (w : BitVec 32) : (adjW i w).toNat = w.toNat % 8192 + boff i := by
  have h0 : (i 0).val < 2 := (i 0).isLt
  have h1 : (i 1).val < 16 := (i 1).isLt
  have e : (w &&& 8191#32).toNat = w.toNat % 8192 := by
    rw [BitVec.toNat_and]; exact Nat.and_two_pow_sub_one_eq_mod _ 13
  have hm := Nat.mod_lt w.toNat (show 0 < 8192 by decide)
  have hb : boff i ≤ 24576 := by unfold boff; omega
  unfold adjW
  rw [BitVec.toNat_add, e, BitVec.toNat_ofNat]
  omega

/-- The raw indices the tile fetches. -/
def rawC (ix : Buf (Elt F) (iV.view.loc (thr d i))) : Buf (Elt F) (rawV.view.loc (thr d i)) := (iB i).view.read (Elt F) ix

theorem inB (ix : Buf (Elt F) (iV.view.loc (thr d i))) : InB d i (adjC d i (rawC d i ix)) := by
  intro c hc x
  show (adjW i _).toNat < 32768
  rw [adjW_toNat]
  have h0 : (i 0).val < 2 := (i 0).isLt
  have h1 : (i 1).val < 16 := (i 1).isLt
  have hm := Nat.mod_lt (BitVec.toNat (rawC d i ix ((iS c hc).view.emb x))) (show 0 < 8192 by decide)
  have hb : boff i ≤ 24576 := by unfold boff; omega
  exact lt_of_lt_of_le (Nat.add_lt_add_of_lt_of_le hm hb) (by decide)

theorem pay_gath (kv : Buf (Elt F) (kV.view.loc (thr d i))) (ix : Buf (Elt F) (iV.view.loc (thr d i))) (c : ℕ) (hc : c < 32) :
    (oS i c hc).view.read (Elt F) (gath (d := d) kv ix) = pay d i kv (adjC d i (rawC d i ix)) (inB d i ix) c hc := by
  funext x
  have e3 : k0_off3 i (BitVec.ofNat 32 (256 * c)) = ![base i + 256 * c, 0] := k0_off3_eq i ⟨c, hc⟩
  have h0 : (i 0).val < 2 := (i 0).isLt
  have h1 : (i 1).val < 16 := (i 1).isLt
  have hx0 : (x 0).val < 256 := (x 0).isLt
  have ey0 : (((oS i c hc).view.emb x) 0).val = base i + 256 * c + (x 0).val := by
    show k0_off3 i (BitVec.ofNat 32 (256 * c)) 0 + 1 * (x 0).val = _
    rw [e3]; show base i + 256 * c + 1 * (x 0).val = _; omega
  have ey1 : (((oS i c hc).view.emb x) 1).val = (x 1).val := by
    show k0_off3 i (BitVec.ofNat 32 (256 * c)) 1 + 1 * (x 1).val = _
    rw [e3]; show 0 + 1 * (x 1).val = _; omega
  refine ((View.read_apply _ _).trans (cast_eq _ _)).trans ?_
  -- the position in the tile's list
  let k : Fin S256.numel := ⟨(x 0).val, hx0⟩
  let p : S8192.Idx := (iS c hc).view.emb (S256.rowMajor.symm k)
  have ek : (S256.rowMajor.symm k 0).val = (x 0).val := by
    have := congrArg Fin.val (S256.rowMajor.apply_symm_apply k)
    exact (Shape.rowMajor_val_one (d := ![256]) (S256.rowMajor.symm k)).symm.trans this
  have ep : (p 0).val = 256 * c + (x 0).val := by
    show 256 * c + 1 * (S256.rowMajor.symm k 0).val = _
    rw [ek]; omega
  have eb : (((iB i).view.emb p) 0).val = base i + 256 * c + (x 0).val := by
    show k0_off1 i 0 + 1 * (p 0).val = _
    rw [k0_off1_eq, ep]; show base i + 1 * (256 * c + (x 0).val) = _; omega
  have ew : rawC d i ix p = ix (ix1 (n0 := 262144) ⟨(((oS i c hc).view.emb x) 0).val, (((oS i c hc).view.emb x) 0).isLt⟩) := by
    refine ((View.read_apply _ _).trans (cast_eq _ _)).trans (congrArg ix ?_)
    funext a
    match a with
    | ⟨0, _⟩ => exact Fin.ext (eb.trans ey0.symm)
  show _ = kv ((kS).view.emb (gathers_S32768x128_S256x128.idx (SparseCore.rows ((iS c hc).view.read (Elt F) (adjC d i (rawC d i ix))) rfl (inB d i ix c hc)) x))
  unfold gath
  refine congrArg kv ?_
  funext a
  match a with
  | ⟨0, _⟩ =>
    refine Fin.ext ?_
    show _ = 0 + 1 * (gathers_S32768x128_S256x128.idx (SparseCore.rows ((iS c hc).view.read (Elt F) (adjC d i (rawC d i ix))) rfl (inB d i ix c hc)) x ⟨0, by decide⟩).val
    rw [show (gathers_S32768x128_S256x128.idx (SparseCore.rows ((iS c hc).view.read (Elt F) (adjC d i (rawC d i ix))) rfl (inB d i ix c hc)) x ⟨0, by decide⟩).val
      = (adjW i (rawC d i ix p)).toNat from rfl, adjW_toNat, ew]
    show _ % 8192 + (((oS i c hc).view.emb x) 0).val / 65536 * 8192 = _
    have hb : (((oS i c hc).view.emb x) 0).val / 65536 * 8192 = boff i := by
      rw [ey0]; unfold boff base; omega
    rw [Nat.zero_add, Nat.one_mul]
    exact congrArg (fun z => BitVec.toNat _ % 8192 + z) hb
  | ⟨1, _⟩ =>
    refine Fin.ext ?_
    show (((oS i c hc).view.emb x) 1).val = 0 + 1 * (x 1).val
    rw [ey1]; omega

/-- The share of the table the tile reads. -/
def kq : PosShare TreeShare := Idealize.ShloMosaic.pieceOf fullShare 32 (by decide)
  ⟨2 * (i 1).val + (i 0).val, by have h0 : (i 0).val < 2 := (i 0).isLt; have h1 : (i 1).val < 16 := (i 1).isLt; omega⟩

/-- The tile's semaphore cell at `sm`. -/
abbrev cell (sm : DmaSems sig S_) : GSem nD τ sig := (thr d i, .dma sm.sem)

omit [FloatOps F] in
/-- The tile's own semaphores, the five the task uses apart. -/
theorem ownSems0_V :
    (ownSems0 (thr d i) : sProp 𝕄)
      = iprop(semVal (cell d i cc0_scratch4) 0 ∗ semVal (cell d i cc0_scratch5) 0 ∗ semVal (cell d i cc0_scratch6) 0 ∗ semVal (cell d i cc0_scratch7) 0
          ∗ semVal (cell d i cc0_scoped0) 0
          ∗ bigSep ((((((ownCells (thr d i)).erase (cell d i cc0_scratch4)).erase (cell d i cc0_scratch5)).erase (cell d i cc0_scratch6)).erase
              (cell d i cc0_scratch7)).erase (cell d i cc0_scoped0)) fun g => semVal g 0) := by
  have h : ∀ sm : DmaSems sig S_, (SemLoc.dma sm.sem : SemLoc sig).isScoped .scVector = true → cell d i sm ∈ ownCells (thr d i) :=
    fun sm hs => mem_ownCells.mpr ⟨rfl, hs⟩
  have hne : ∀ a b : DmaSems sig S_, a.sem ≠ b.sem → cell d i a ≠ cell d i b := by
    intro a b hab e
    have e2 : (SemLoc.dma a.sem : SemLoc sig) = .dma b.sem := congrArg Prod.snd e
    exact hab (by injection e2)
  have m4 := h cc0_scratch4 (by decide)
  have m5 := h cc0_scratch5 (by decide)
  have m6 := h cc0_scratch6 (by decide)
  have m7 := h cc0_scratch7 (by decide)
  have m0 := h cc0_scoped0 (by decide)
  have n54 := hne cc0_scratch5 cc0_scratch4 (by decide)
  have n64 := hne cc0_scratch6 cc0_scratch4 (by decide)
  have n74 := hne cc0_scratch7 cc0_scratch4 (by decide)
  have n04 := hne cc0_scoped0 cc0_scratch4 (by decide)
  have n65 := hne cc0_scratch6 cc0_scratch5 (by decide)
  have n75 := hne cc0_scratch7 cc0_scratch5 (by decide)
  have n05 := hne cc0_scoped0 cc0_scratch5 (by decide)
  have n76 := hne cc0_scratch7 cc0_scratch6 (by decide)
  have n06 := hne cc0_scoped0 cc0_scratch6 (by decide)
  have n07 := hne cc0_scoped0 cc0_scratch7 (by decide)
  unfold SparseCore.Cfg.ownSems0
  rw [SparseCore.bigSep_erase' m4, SparseCore.bigSep_erase' (Finset.mem_erase.mpr ⟨n54, m5⟩),
    SparseCore.bigSep_erase' (Finset.mem_erase.mpr ⟨n65, Finset.mem_erase.mpr ⟨n64, m6⟩⟩),
    SparseCore.bigSep_erase' (Finset.mem_erase.mpr ⟨n76, Finset.mem_erase.mpr ⟨n75, Finset.mem_erase.mpr ⟨n74, m7⟩⟩⟩),
    SparseCore.bigSep_erase' (Finset.mem_erase.mpr ⟨n07, Finset.mem_erase.mpr ⟨n06, Finset.mem_erase.mpr ⟨n05, Finset.mem_erase.mpr ⟨n04, m0⟩⟩⟩⟩)]

omit [FloatOps F] in
/-- The tile's own buffers, the four the task uses apart. -/
theorem ownBufs_V :
    (ownBufs (thr d i) : sProp 𝕄)
      = iprop((∃ f, (thr d i).loc cc0_scratch0 ↦{fullShare} f) ∗ (∃ f, (thr d i).loc cc0_scratch1 ↦{fullShare} f)
          ∗ (∃ f, (thr d i).loc cc0_scratch2 ↦{fullShare} f) ∗ (∃ f, (thr d i).loc cc0_scratch3 ↦{fullShare} f)
          ∗ bigSep (((((ownRefs (τ := τ) (.scVector (cV i) (jV i))).erase ((Proc.scVector (cV i) (jV i)).devRef cc0_scratch0)).erase
              ((Proc.scVector (cV i) (jV i)).devRef cc0_scratch1)).erase ((Proc.scVector (cV i) (jV i)).devRef cc0_scratch2)).erase
              ((Proc.scVector (cV i) (jV i)).devRef cc0_scratch3))
              fun b => iprop(∃ f, ((d, b) : Loc nD τ sig) ↦{fullShare} f)) := by
  have m : ∀ r : Ref sig .scVector, ((Proc.scVector (cV i) (jV i)).devRef r).owner = Owner.proc (Proc.scVector (cV i) (jV i)) →
      (Proc.scVector (cV i) (jV i)).devRef r ∈ ownRefs (τ := τ) (.scVector (cV i) (jV i)) := fun r h => SparseCore.Cfg.mem_ownRefs_of_owner h
  have n : ∀ a b : Ref sig .scVector, a ≠ b → (Proc.scVector (cV i) (jV i)).devRef a ≠ (Proc.scVector (cV i) (jV i)).devRef b :=
    fun a b h e => h (Proc.devRef_injective _ e)
  unfold SparseCore.Cfg.ownBufs
  refine (SparseCore.bigSep_erase' (m cc0_scratch0 rfl)).trans ?_
  rw [SparseCore.bigSep_erase' (Finset.mem_erase.mpr ⟨n cc0_scratch1 cc0_scratch0 (by decide), m cc0_scratch1 rfl⟩),
    SparseCore.bigSep_erase' (Finset.mem_erase.mpr ⟨n cc0_scratch2 cc0_scratch1 (by decide), Finset.mem_erase.mpr ⟨n cc0_scratch2 cc0_scratch0 (by decide), m cc0_scratch2 rfl⟩⟩),
    SparseCore.bigSep_erase' (Finset.mem_erase.mpr ⟨n cc0_scratch3 cc0_scratch2 (by decide), Finset.mem_erase.mpr ⟨n cc0_scratch3 cc0_scratch1 (by decide),
      Finset.mem_erase.mpr ⟨n cc0_scratch3 cc0_scratch0 (by decide), m cc0_scratch3 rfl⟩⟩⟩)]

theorem credit_bufA : ∀ h : S32768x128.Gathers 0 S256x128,
    ∑ j, (bufA.slice (S256x128.rowRect h.axis' j) (S256x128.stride_rowRect h.axis' j)).view.dmaCredit = bufA.view.dmaCredit := by decide +kernel
theorem credit_bufB : ∀ h : S32768x128.Gathers 0 S256x128,
    ∑ j, (bufB.slice (S256x128.rowRect h.axis' j) (S256x128.stride_rowRect h.axis' j)).view.dmaCredit = bufB.view.dmaCredit := by decide +kernel

omit [FloatOps F] in
/-- A row buffer as the task holds it. -/
theorem buf_pts (A : Ref sig .scVector) (f : Buf (Elt F) ((thr d i).loc A)) :
    ((thr d i).loc A ↦{fullShare} f : sProp 𝕄) = ((Memref.whole A).view.loc (thr d i) ↦[(Memref.whole A).view.set]{fullShare} f) := by
  rw [show (Memref.whole A).view.set = Finset.univ from View.set_whole _]

/-- What the double rounds leave: the last two chunks' gathers in flight. -/
theorem between_last (kv : Buf (Elt F) (kLoc d)) (ia : Buf (Elt F) ((thr d i).loc cc0_scratch1)) (o0 G : Buf (Elt F) (oLoc d)) (hin : InB d i ia)
    (O : CellTallies nD τ sig (HIx 1)) (W : Waits sig (HIx 1)) (A B : Memref sig .scVector .vmem S256x128 .f32) (sgA sgB swA swB : DmaSems sig S_)
    (qA qB : PosShare TreeShare) (h : 30 + 2 * 0 < 31) (h0 : 30 < 32) (h1 : 31 < 32) :
    between d i kv ia o0 G hin O W A B sgA sgB swA swB qA qB 0 30 h
      ⊢ iprop(gFl d i kv ia hin A sgA qA 30 h0 ∗ gFl d i kv ia hin B sgB qB 31 h1
        ∗ semVal (thr d i, SemLoc.dma swA.sem) 0 ∗ semVal (thr d i, SemLoc.dma swB.sem) 0
        ∗ bigSep (Finset.range 30) (iPt d i ia) ∗ oPt d i o0 30 ∗ oPt d i o0 31 ∗ bigSep (Finset.range 30) (oPt d i G)
        ∗ ∃ W', ⌜okW W W'⌝ ∗ owes (thr d i) O W') := by
  unfold between
  rw [show (30 + (2 * 0 + 2)) = 30 + (1 + 1) from rfl, bigSep_first, show (30 + 1 + 1) = 30 + 1 + (0 + 1) from rfl, bigSep_first]
  iintro ⟨HgA, HgB, HwA, HwB, -, Hid, ⟨Ho0, Ho1, -⟩, Hod, HW⟩
  isplitl [HgA]; · iexact HgA
  isplitl [HgB]; · iexact HgB
  isplitl [HwA]; · iexact HwA
  isplitl [HwB]; · iexact HwB
  isplitl [Hid]; · iexact Hid
  isplitl [Ho0]; · iexact Ho0
  isplitl [Ho1]; · iexact Ho1
  isplitl [Hod]; · iexact Hod
  iexact HW

/-- The task. -/
theorem tile_body (hF : (K (F := F)).Facts) (kv : Buf (Elt F) (kLoc d)) (ix : Buf (Elt F) (iLoc d)) (o0 : Buf (Elt F) (oLoc d))
    (O : CellTallies nD τ sig (HIx 1)) (W : Waits sig (HIx 1)) (hO : ∀ g, O g none = 0) :
    iprop((levAts (K (F := F)).L (K (F := F)).lev : sProp 𝕄) ∗ emp
        ∗ ((iLoc d ↦[iTile i]{fullShare} ix) ∗ (kLoc d ↦{kq i} kv) ∗ (oLoc d ↦[oTile i]{fullShare} o0))
        ∗ scopedBufs (thr d i) ∗ scopedSems0 (thr d i) ∗ owes (thr d i) O W)
      ⊢ wp frame (wpE (defs₀ (F := F)) 𝒱₀ (thr d i) none) Set.univ
          (cc0__sc_gather_body (F := F) i iV (Memref.isWhole_whole _) kV (Memref.isWhole_whole _) oV (Memref.isWhole_whole _)
            rawV (Memref.isWhole_whole _) adjV (Memref.isWhole_whole _) bufA (Memref.isWhole_whole _) bufB (Memref.isWhole_whole _)
            cc0_scratch4 cc0_scratch5 cc0_scratch6 cc0_scratch7 cc0_scoped0)
          fun _ => iprop(((iLoc d ↦[iTile i]{fullShare} ix) ∗ (kLoc d ↦{kq i} kv) ∗ (oLoc d ↦[oTile i]{fullShare} gath kv ix))
            ∗ scopedBufs (thr d i) ∗ scopedSems0 (thr d i)
            ∗ ∃ W', ⌜∀ p ∈ W', p ∈ W ∨ p.2 = none⌝ ∗ owes (thr d i) O W') := by
  rw [prog_eq]
  rw [(K (F := F)).scopedBufs_V hF d (cV i) (jV i), SparseCore.Cfg.scopedSems0_V (Val := Elt F) d (cV i) (jV i), ownSems0_V, ownBufs_V]
  unfold prog
  iintro ⟨#Hlv, -, ⟨Hi, Hk, Ho⟩, ⟨⟨%fr, Hr⟩, Ha, ⟨%fA, HA⟩, ⟨%fB, HB⟩, Hbufs⟩, ⟨HgA, HgB, HwA, HwB, Hs0, Hsems⟩, HO⟩
  ihave #Hmw := (show (levAts (K (F := F)).L (K (F := F)).lev : sProp 𝕄) ⊢ Transfers.MayWaits (thr d i) (default : HIx 1) O from
    (K (F := F)).mayWaits_none (thr := thr d i) hO) $$ Hlv
  -- the index fetch
  ihave Hi' := (Entails.of_eq (show (iLoc d ↦[iTile i]{fullShare} ix : sProp 𝕄) = ((iB i).view.loc (thr d i) ↦[(iB i).view.set]{fullShare} ix) by rw [iB_set])) $$ Hi
  iapply (Transfers.wp_dmaLocal countersEmb 𝒱₀ (thr d i) none (default : HIx 1) (rawV).view.dmaCredit rfl
    (View.dmaCredit_pos _ (by decide)) (Finset.subset_univ _)) $$ [Hi' Hr Hs0]
  · isplitl [Hi']; · iexact Hi'
    isplitl [Hr]; · iexact Hr
    iexact Hs0
  iintro Hf
  iapply (Transfers.wp_waitLocalO countersEmb 𝒱₀ (thr d i) none (default : HIx 1) (rfl : (rawV).view.dmaCredit = _)) $$ [Hf HO]
  · isplitl [Hf]; · iexact Hf
    isplitl [HO]; · iexact HO
    iapply (Transfers.MayWaits.elim (SemLoc.dma cc0_scoped0.sem)) $$ Hmw
  iintro ⟨⟨Hr, Hi⟩, Hs0, HO⟩
  have er : (rawV).view.write (Elt F) fr (ReadAs.same.apply ((iB i).view.read (Elt F) ix)) Finset.univ = rawC d i ix := by
    rw [View.write_whole_univ]; rfl
  ihave Hr := (Entails.of_eq (show _ = rPt d i (rawC d i ix) from congrArg (fun z => ((rawV).view.loc (thr d i) ↦{fullShare} z : sProp 𝕄)) er)) $$ Hr
  -- the pass
  iapply (pass_wp d i _ (rawC d i ix) (stream i)) $$ [Hr Ha]
  · isplitl [Hr]; · iexact Hr
    iexact Ha
  iintro ⟨Hr, Ha⟩
  -- the first two gathers
  ihave Ha := (Entails.of_eq ((adj_pts d i (adjC d i (rawC d i ix))).trans ((bigSep_range_eq_Ico _).trans (bigSep_first2 _)))) $$ Ha
  icases Ha with ⟨Ha0, Ha1, Ha⟩
  ihave Hk := (pointsTo_share (PosShare.mem_left_op_right (kq i))).1 $$ Hk
  icases Hk with ⟨HkA, HkB⟩
  ihave HkA := (Entails.of_eq (show (kLoc d ↦{(kq i).left} kv : sProp 𝕄) = kPt d i kv (kq i).left by unfold kPt; rw [kS_set])) $$ HkA
  ihave HkB := (Entails.of_eq (show (kLoc d ↦{(kq i).right} kv : sProp 𝕄) = kPt d i kv (kq i).right by unfold kPt; rw [kS_set])) $$ HkB
  ihave HA := (Entails.of_eq (buf_pts d i cc0_scratch2 fA)) $$ HA
  ihave HB := (Entails.of_eq (buf_pts d i cc0_scratch3 fB)) $$ HB
  unfold stream
  iapply (gat_wp d i kv _ (inB d i ix) _ bufA credit_bufA cc0_scratch4 (kq i).left 0 _ fA) $$ [HkA HA Ha0 HgA]
  · isplitl [HkA]; · iexact HkA
    isplitl [HA]; · iexact HA
    isplitl [Ha0]; · iexact Ha0
    iexact HgA
  iintro HgA
  iapply (gat_wp d i kv _ (inB d i ix) _ bufB credit_bufB cc0_scratch5 (kq i).right 1 _ fB) $$ [HkB HB Ha1 HgB]
  · isplitl [HkB]; · iexact HkB
    isplitl [HB]; · iexact HB
    isplitl [Ha1]; · iexact Ha1
    iexact HgB
  iintro HgB
  -- the rounds
  ihave Ho := (Entails.of_eq ((oTile_pts d i o0).trans (bigSep_range_eq_Ico _))) $$ Ho
  iapply (rounds_wp d i kv _ o0 (gath kv ix) (inB d i ix) _ bufA bufB _ _ credit_bufA credit_bufB cc0_scratch4 cc0_scratch5 cc0_scratch6 cc0_scratch7
      (kq i).left (kq i).right (fun c hc => pay_gath d i kv ix c hc) O W (tail i) 15 0 _) $$ [HgA HgB HwA HwB Ha Ho HO]
  · isplitl [HgA HgB HwA HwB Ha Ho HO]
    swap; · iexact Hmw
    unfold between
    isplitl [HgA]; · iexact HgA
    isplitl [HgB]; · iexact HgB
    isplitl [HwA]; · iexact HwA
    isplitl [HwB]; · iexact HwB
    isplitl [Ha]; · iexact Ha
    isplitr; · rw [Finset.range_zero, bigSep_empty]; iempintro
    isplitl [Ho]; · iexact Ho
    isplitr; · rw [Finset.range_zero, bigSep_empty]; iempintro
    iexists _
    isplitr
    swap; · iexact HO
    ipureintro
    exact okW_insert (fun p hp => .inl hp) _
  iintro H
  ihave H := (between_last d i kv (adjC d i (rawC d i ix)) o0 (gath kv ix) (inB d i ix) O W bufA bufB cc0_scratch4 cc0_scratch5 cc0_scratch6 cc0_scratch7
      (kq i).left (kq i).right _ (by decide) (by decide)) $$ H
  icases H with ⟨HgA, HgB, HwA, HwB, Hid, Ho0, Ho1, Hod, %W', %hW, HO⟩
  -- the tail
  unfold tail
  iapply (put_wp d i kv _ o0 (gath kv ix) (inB d i ix) _ bufA _ cc0_scratch4 cc0_scratch6 (kq i).left 30 _ (pay_gath d i kv ix 30 _) O W') $$ [HgA Ho0 HwA HO]
  · isplitl [HgA]; · iexact HgA
    isplitl [Ho0]; · iexact Ho0
    isplitl [HwA]; · iexact HwA
    isplitl [HO]; · iexact HO
    iexact Hmw
  iintro ⟨HoA, HkA, HiA, HgA, HO⟩
  iapply (put_wp d i kv _ o0 (gath kv ix) (inB d i ix) _ bufB _ cc0_scratch5 cc0_scratch7 (kq i).right 31 _ (pay_gath d i kv ix 31 _) O _) $$ [HgB Ho1 HwB HO]
  · isplitl [HgB]; · iexact HgB
    isplitl [Ho1]; · iexact Ho1
    isplitl [HwB]; · iexact HwB
    isplitl [HO]; · iexact HO
    iexact Hmw
  iintro ⟨HoB, HkB, HiB, HgB, HO⟩
  iapply (done_wp d i (gath kv ix) _ bufA _ cc0_scratch6 30 _ O _) $$ [HoA HO]
  · isplitl [HoA]; · iexact HoA
    isplitl [HO]; · iexact HO
    iexact Hmw
  iintro ⟨Ho0, ⟨%gA, HA⟩, HwA, HO⟩
  iapply (done_wp d i (gath kv ix) _ bufB _ cc0_scratch7 31 _ O _) $$ [HoB HO]
  · isplitl [HoB]; · iexact HoB
    isplitl [HO]; · iexact HO
    iexact Hmw
  iintro ⟨Ho1, ⟨%gB, HB⟩, HwB, HO⟩
  rw [wp_ret]
  imodintro
  isplitl [Hi HkA HkB Hod Ho0 Ho1]
  · isplitl [Hi]
    · ihave Hi := (Entails.of_eq (show ((iB i).view.loc (thr d i) ↦[(iB i).view.set]{fullShare} ix) = (iLoc d ↦[iTile i]{fullShare} ix : sProp 𝕄) by rw [iB_set])) $$ Hi
      iexact Hi
    isplitl [HkA HkB]
    · iapply (pointsTo_share (PosShare.mem_left_op_right (kq i))).2
      isplitl [HkA]
      · ihave HkA := (Entails.of_eq (show kPt d i kv (kq i).left = (kLoc d ↦{(kq i).left} kv : sProp 𝕄) by unfold kPt; rw [kS_set])) $$ HkA
        iexact HkA
      · ihave HkB := (Entails.of_eq (show kPt d i kv (kq i).right = (kLoc d ↦{(kq i).right} kv : sProp 𝕄) by unfold kPt; rw [kS_set])) $$ HkB
        iexact HkB
    · ihave H := (Entails.of_eq ((bigSep_last2 (oPt d i (gath kv ix))).symm.trans (oTile_pts d i (gath kv ix)).symm)) $$ [Ho0 Ho1 Hod]
      · isplitl [Ho1]; · iexact Ho1
        isplitl [Ho0]; · iexact Ho0
        iexact Hod
      iexact H
  isplitl [Hr Hid HiA HiB HA HB Hbufs]
  · isplitl [Hr]; · iexists _; iexact Hr
    isplitl [Hid HiA HiB]
    · ihave H := (Entails.of_eq ((bigSep_last2 (iPt d i (adjC d i (rawC d i ix)))).symm.trans (adj_pts d i _).symm)) $$ [Hid HiA HiB]
      · isplitl [HiB]; · iexact HiB
        isplitl [HiA]; · iexact HiA
        iexact Hid
      iexists _; iexact H
    isplitl [HA]
    · iexists gA
      ihave HA := (Entails.of_eq (buf_pts d i cc0_scratch2 gA).symm) $$ HA
      iexact HA
    isplitl [HB]
    · iexists gB
      ihave HB := (Entails.of_eq (buf_pts d i cc0_scratch3 gB).symm) $$ HB
      iexact HB
    iexact Hbufs
  isplitl [HgA HgB HwA HwB Hs0 Hsems]
  · isplitl [HgA]; · iexact HgA
    isplitl [HgB]; · iexact HgB
    isplitl [HwA]; · iexact HwA
    isplitl [HwB]; · iexact HwB
    isplitl [Hs0]; · iexact Hs0
    iexact Hsems
  iexists _; isplitr
  swap; · iexact HO
  ipureintro
  exact okW_insert (okW_insert (okW_insert (okW_insert hW _) _) _) _

end Tile

end Cert.KernelIdeal.Hash
-- ==== Proof.KernelIdeal.TcCall1.lean ====
/-
  The first attention call as a pipeline: its proof data at the contents the call is entered with, and the body's
  obligation at every grid point.
-/
module

public import proofs.«01_k».proof.Proof.KernelIdeal.TcPoint

@[expose] public section

set_option maxRecDepth 16384

noncomputable section

namespace Cert.KernelIdeal.Hash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Pipeline (Dat Cfg Window BodyObligation)

variable {F : FTy → Type} [FloatOps F]

local notation "𝕄" => MT nD τ sig (HIx 1) (Elt F) ℕ UU ℕ

variable (V : Valuation τ sig (Elt F))

/-- The query block a point reads. -/
def q1 (t : Fin cfg1.N) : Vec F S1x2048x64 .f32 :=
  ((cfg1.win 0).blk t).view.read (Elt F) (V (Proc.devRef .tc (Pipeline.arrRef spec1 0)))
/-- The gathered rows a point reads. -/
def r1 (t : Fin cfg1.N) : Vec F S8192x128 .f32 :=
  ((cfg1.win 1).blk t).view.read (Elt F) (V (Proc.devRef .tc (Pipeline.arrRef spec1 1)))

/-- The other scoped buffers and the generator register. -/
abbrev rest1 (c : Dev nD) : sProp 𝕄 :=
  iprop(Pipeline.scopedRestBut spec1 c [cc1_scratch0, cc1_scratch1, cc1_scratch2] ∗ ∃ r, prngReg c r)

/-- The invariant before a point: the scratch, and the rest. -/
def phi1 (c : Dev nD) (n : ℕ) (h : n ≤ cfg1.N) : sProp 𝕄 :=
  iprop(scrPhi (q1 V) (r1 V) c (Memref.whole cc1_scratch0) (Memref.whole cc1_scratch1) (Memref.whole cc1_scratch2) n h ∗ rest1 c)

/-- The proof data of the call: the arrays as it finds them; after a point the inputs' blocks in place and the output block at
    the quotient of the scratch. -/
def dat1 (c : Dev nD) : Dat τ (Elt F) (HIx 1) ℕ UU ℕ cfg1 c where
  A w := V (Proc.devRef .tc (Pipeline.arrRef spec1 w))
  after w t := match w with
    | ⟨0, _⟩ => q1 V t
    | ⟨1, _⟩ => r1 V t
    | ⟨2, _⟩ => outAt (q1 V) (r1 V) t.val t.isLt
  Φ t := phi1 V c t.val (Nat.le_of_lt_succ t.isLt)
  q _ := fullShare
  owed _ := 0

theorem A1_eq (c : Dev nD) (w : Fin cfg1.W) : (dat1 V c).A w = V (Proc.devRef .tc (Pipeline.arrRef spec1 w)) := by dsimp only [dat1]
theorem phi1_castSucc (c : Dev nD) (t : Fin cfg1.N) : (dat1 V c).Φ t.castSucc = phi1 V c t.val (Nat.le_of_lt t.isLt) := by
  dsimp only [dat1]; exact Pipeline.Dat.Φ_castSucc (phi1 V c) t
theorem after1_0 (c : Dev nD) (t : Fin cfg1.N) : (dat1 V c).after 0 t = q1 V t := by dsimp only [dat1]
theorem after1_1 (c : Dev nD) (t : Fin cfg1.N) : (dat1 V c).after 1 t = r1 V t := by dsimp only [dat1]
theorem after1_2 (c : Dev nD) (t : Fin cfg1.N) : (dat1 V c).after 2 t = outAt (q1 V) (r1 V) t.val t.isLt := by dsimp only [dat1]

/-- At every point the query window's buffer holds its block. -/
theorem before1_0 (c : Dev nD) (t : Fin cfg1.N) (d) : (dat1 V c).before 0 t d = q1 V t :=
  ((dat1 V c).before_in_eq_fetched 0 rfl (fun _ => rfl) (fun _ _ _ => rfl) (fun t => by rw [after1_0]; unfold Dat.blockOf q1; rw [A1_eq]) t d).trans
    (by unfold Dat.fetched Dat.blockOf q1; rw [A1_eq]; rfl)
/-- At every point the rows window's buffer holds its block. -/
theorem before1_1 (c : Dev nD) (t : Fin cfg1.N) (d) : (dat1 V c).before 1 t d = r1 V t :=
  ((dat1 V c).before_in_eq_fetched 1 rfl (fun _ => rfl) (fun _ _ _ => rfl) (fun t => by rw [after1_1]; unfold Dat.blockOf r1; rw [A1_eq]) t d).trans
    (by unfold Dat.fetched Dat.blockOf r1; rw [A1_eq]; rfl)

theorem coords1 (t : Fin cfg1.N) : (grid1.coords t 0).val = t.val :=
  (show (grid1.coords t 0).val = t.val / 1 % 8 from Pipeline.Grid.coords_val t 0 (by decide) rfl).trans (by
    have ht : t.val < 8 := Nat.lt_of_lt_of_eq t.isLt N_1
    omega)

/-- What the point leaves of the output block is what the pipeline asks for. -/
theorem left1 (c : Dev nD) (t : Fin cfg1.N) (d : Vec F S2048x64 .f32) :
    (owns (c : Thread nD τ) (st1_2 t) fullShare (if last (grid1.coords t) then outAt (q1 V) (r1 V) t.val t.isLt else (dat1 V c).before 2 t d) : sProp 𝕄)
      ⊢ (match cfg1.idle 2 (cfg1.grid.coords t) with
        | true => match (cfg1.win 2).flush t with
          | false => iprop(∃ d, owns (c : Thread nD τ) ((cfg1.win 2).stage (cfg1.slots t 2)) fullShare ((dat1 V c).before 2 t d))
          | true => owns (c : Thread nD τ) ((cfg1.win 2).stage (cfg1.slots t 2)) fullShare ((dat1 V c).after 2 t)
        | false => owns (c : Thread nD τ) ((cfg1.win 2).stage (cfg1.slots t 2)) fullShare ((dat1 V c).after 2 t) : sProp 𝕄) := by
  have ht : t.val < 8 := Nat.lt_of_lt_of_eq t.isLt N_1
  have hl := last_iff (grid1.coords t) t.val ht (coords1 t)
  by_cases h : t.val = 7
  · have h1 : last (grid1.coords t) := hl.mpr h
    rw [if_pos h1, show cfg1.idle 2 (cfg1.grid.coords t) = false from by
      show (!(k1_cond2 (grid1.coords t) == 1#1)) = false
      rw [show k1_cond2 (grid1.coords t) = 1#1 from h1]; rfl]
    dsimp only
    rw [after1_2]
  · have h1 : ¬ last (grid1.coords t) := fun hh => h (hl.mp hh)
    rw [if_neg h1, show cfg1.idle 2 (cfg1.grid.coords t) = true from by
      show (!(k1_cond2 (grid1.coords t) == 1#1)) = true
      rw [Bool.not_eq_true', beq_eq_false_iff_ne]; exact h1,
      show (cfg1.win 2).flush t = false from Bool.eq_false_iff.mpr fun hh => h (by have := (flush1_2 t).mp hh; omega)]
    dsimp only
    iintro H
    iexists d
    iexact H

/-- The body's obligation, at every point. -/
theorem body1 (c : Dev nD) : BodyObligation (dat1 V c) (defs₀ (F := F)) Variants.none (none : HIx 1) Set.univ := fun t => by
  have ht : t.val < 8 := Nat.lt_of_lt_of_eq t.isLt N_1
  rw [bigSep_W1, bigSep_W1, show defs₀ (F := F) .tc cfg1.body (cfg1.bodyArgs t (cfg1.slots t)) = bodyAt1 t from rfl]
  simp only [before1_0, before1_1]
  rw [phi1_castSucc, show (dat1 V c).Φ t.succ = phi1 V c (t.val + 1) t.isLt from rfl,
    show (dat1 V c).owesAt none t.succ = (dat1 V c).owesAt none t.castSucc from rfl]
  unfold phi1
  iintro ⟨⟨HS, HR⟩, Ho, ⟨%d0, H0⟩, ⟨%d1, H1⟩, ⟨%d2, H2⟩⟩
  ihave Hw := (point_run c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (Memref.whole cc1_scratch0) (Memref.isWhole_whole _) (Memref.whole cc1_scratch1) (Memref.isWhole_whole _)
    (Memref.whole cc1_scratch2) (Memref.isWhole_whole _) (q1 V) (r1 V) t (first_iff (grid1.coords t) t.val ht (coords1 t)) ((dat1 V c).before 2 t d2)) $$ [HS H0 H1 H2]
  · isplitl [HS]; · iexact HS
    isplitl [H0]; · iexact H0
    isplitl [H1]; · iexact H1
    iexact H2
  ihave Hww := (wp_wand _ _ _) $$ Hw
  iapply Hww
  iintro %r ⟨HS, H0, H1, H2⟩
  isplitl [HS HR]
  · isplitl [HS]; · iexact HS
    iexact HR
  isplitl [Ho]; · iexact Ho
  isplitl [H0]; · iapply (Entails.of_eq (by rw [after1_0])) $$ H0
  isplitl [H1]; · iapply (Entails.of_eq (by rw [after1_1])) $$ H1
  iapply (left1 V c t d2) $$ H2

/-- What the call is entered with gives the invariant before the first point. -/
theorem hin1 (c : Dev nD) : iprop(Pipeline.scopedRest spec1 c ∗ ∃ r, prngReg c r) ⊢ (dat1 V c).Φ 0 := by
  rw [show (dat1 V c).Φ 0 = phi1 V c 0 (Nat.zero_le _) from rfl, scopedRest1_split]
  unfold phi1 scrPhi
  simp only [owns_whole]
  iintro ⟨⟨HS, HB⟩, Hg⟩
  isplitl [HS]; · iexact HS
  isplitl [HB]; · iexact HB
  iexact Hg

/-- The invariant after the last point gives it back. -/
theorem hout1 (c : Dev nD) : (dat1 V c).Φ (Fin.last cfg1.N) ⊢ iprop(Pipeline.scopedRest spec1 c ∗ ∃ r, prngReg c r) := by
  rw [show (dat1 V c).Φ (Fin.last cfg1.N) = phi1 V c cfg1.N le_rfl from rfl, scopedRest1_split]
  unfold phi1
  refine (sep_mono (scrPhi_any _ _ _ _ _ _ _ _) .rfl).trans ?_
  simp only [owns_whole]
  iintro ⟨HS, HB, Hg⟩
  isplitr [Hg]
  · isplitl [HS]; · iexact HS
    iexact HB
  iexact Hg

end Cert.KernelIdeal.Hash
-- ==== Proof.KernelIdeal.TcCall2.lean ====
/-
  The second attention call as a pipeline: its proof data at the contents the call is entered with, and the body's
  obligation at every grid point.
-/
module

public import proofs.«01_k».proof.Proof.KernelIdeal.TcPoint

@[expose] public section

set_option maxRecDepth 16384

noncomputable section

namespace Cert.KernelIdeal.Hash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Pipeline (Dat Cfg Window BodyObligation)

variable {F : FTy → Type} [FloatOps F]

local notation "𝕄" => MT nD τ sig (HIx 1) (Elt F) ℕ UU ℕ

variable (V : Valuation τ sig (Elt F))

/-- The query block a point reads. -/
def q2 (t : Fin cfg2.N) : Vec F S1x2048x64 .f32 :=
  ((cfg2.win 0).blk t).view.read (Elt F) (V (Proc.devRef .tc (Pipeline.arrRef spec2 0)))
/-- The gathered rows a point reads. -/
def r2 (t : Fin cfg2.N) : Vec F S8192x128 .f32 :=
  ((cfg2.win 1).blk t).view.read (Elt F) (V (Proc.devRef .tc (Pipeline.arrRef spec2 1)))

/-- The other scoped buffers and the generator register. -/
abbrev rest2 (c : Dev nD) : sProp 𝕄 :=
  iprop(Pipeline.scopedRestBut spec2 c [cc2_scratch0, cc2_scratch1, cc2_scratch2] ∗ ∃ r, prngReg c r)

/-- The invariant before a point: the scratch, and the rest. -/
def phi2 (c : Dev nD) (n : ℕ) (h : n ≤ cfg2.N) : sProp 𝕄 :=
  iprop(scrPhi (q2 V) (r2 V) c (Memref.whole cc2_scratch0) (Memref.whole cc2_scratch1) (Memref.whole cc2_scratch2) n h ∗ rest2 c)

/-- The proof data of the call: the arrays as it finds them; after a point the inputs' blocks in place and the output block at
    the quotient of the scratch. -/
def dat2 (c : Dev nD) : Dat τ (Elt F) (HIx 1) ℕ UU ℕ cfg2 c where
  A w := V (Proc.devRef .tc (Pipeline.arrRef spec2 w))
  after w t := match w with
    | ⟨0, _⟩ => q2 V t
    | ⟨1, _⟩ => r2 V t
    | ⟨2, _⟩ => outAt (q2 V) (r2 V) t.val t.isLt
  Φ t := phi2 V c t.val (Nat.le_of_lt_succ t.isLt)
  q _ := fullShare
  owed _ := 0

theorem A2_eq (c : Dev nD) (w : Fin cfg2.W) : (dat2 V c).A w = V (Proc.devRef .tc (Pipeline.arrRef spec2 w)) := by dsimp only [dat2]
theorem phi2_castSucc (c : Dev nD) (t : Fin cfg2.N) : (dat2 V c).Φ t.castSucc = phi2 V c t.val (Nat.le_of_lt t.isLt) := by
  dsimp only [dat2]; exact Pipeline.Dat.Φ_castSucc (phi2 V c) t
theorem after2_0 (c : Dev nD) (t : Fin cfg2.N) : (dat2 V c).after 0 t = q2 V t := by dsimp only [dat2]
theorem after2_1 (c : Dev nD) (t : Fin cfg2.N) : (dat2 V c).after 1 t = r2 V t := by dsimp only [dat2]
theorem after2_2 (c : Dev nD) (t : Fin cfg2.N) : (dat2 V c).after 2 t = outAt (q2 V) (r2 V) t.val t.isLt := by dsimp only [dat2]

/-- At every point the query window's buffer holds its block. -/
theorem before2_0 (c : Dev nD) (t : Fin cfg2.N) (d) : (dat2 V c).before 0 t d = q2 V t :=
  ((dat2 V c).before_in_eq_fetched 0 rfl (fun _ => rfl) (fun _ _ _ => rfl) (fun t => by rw [after2_0]; unfold Dat.blockOf q2; rw [A2_eq]) t d).trans
    (by unfold Dat.fetched Dat.blockOf q2; rw [A2_eq]; rfl)
/-- At every point the rows window's buffer holds its block. -/
theorem before2_1 (c : Dev nD) (t : Fin cfg2.N) (d) : (dat2 V c).before 1 t d = r2 V t :=
  ((dat2 V c).before_in_eq_fetched 1 rfl (fun _ => rfl) (fun _ _ _ => rfl) (fun t => by rw [after2_1]; unfold Dat.blockOf r2; rw [A2_eq]) t d).trans
    (by unfold Dat.fetched Dat.blockOf r2; rw [A2_eq]; rfl)

theorem coords2 (t : Fin cfg2.N) : (grid2.coords t 0).val = t.val :=
  (show (grid2.coords t 0).val = t.val / 1 % 8 from Pipeline.Grid.coords_val t 0 (by decide) rfl).trans (by
    have ht : t.val < 8 := Nat.lt_of_lt_of_eq t.isLt N_2
    omega)

/-- What the point leaves of the output block is what the pipeline asks for. -/
theorem left2 (c : Dev nD) (t : Fin cfg2.N) (d : Vec F S2048x64 .f32) :
    (owns (c : Thread nD τ) (st2_2 t) fullShare (if last (grid2.coords t) then outAt (q2 V) (r2 V) t.val t.isLt else (dat2 V c).before 2 t d) : sProp 𝕄)
      ⊢ (match cfg2.idle 2 (cfg2.grid.coords t) with
        | true => match (cfg2.win 2).flush t with
          | false => iprop(∃ d, owns (c : Thread nD τ) ((cfg2.win 2).stage (cfg2.slots t 2)) fullShare ((dat2 V c).before 2 t d))
          | true => owns (c : Thread nD τ) ((cfg2.win 2).stage (cfg2.slots t 2)) fullShare ((dat2 V c).after 2 t)
        | false => owns (c : Thread nD τ) ((cfg2.win 2).stage (cfg2.slots t 2)) fullShare ((dat2 V c).after 2 t) : sProp 𝕄) := by
  have ht : t.val < 8 := Nat.lt_of_lt_of_eq t.isLt N_2
  have hl := last_iff (grid2.coords t) t.val ht (coords2 t)
  by_cases h : t.val = 7
  · have h1 : last (grid2.coords t) := hl.mpr h
    rw [if_pos h1, show cfg2.idle 2 (cfg2.grid.coords t) = false from by
      show (!(k2_cond2 (grid2.coords t) == 1#1)) = false
      rw [show k2_cond2 (grid2.coords t) = 1#1 from h1]; rfl]
    dsimp only
    rw [after2_2]
  · have h1 : ¬ last (grid2.coords t) := fun hh => h (hl.mp hh)
    rw [if_neg h1, show cfg2.idle 2 (cfg2.grid.coords t) = true from by
      show (!(k2_cond2 (grid2.coords t) == 1#1)) = true
      rw [Bool.not_eq_true', beq_eq_false_iff_ne]; exact h1,
      show (cfg2.win 2).flush t = false from Bool.eq_false_iff.mpr fun hh => h (by have := (flush2_2 t).mp hh; omega)]
    dsimp only
    iintro H
    iexists d
    iexact H

/-- The body's obligation, at every point: the body is the first call's. -/
theorem body2 (c : Dev nD) : BodyObligation (dat2 V c) (defs₀ (F := F)) Variants.none (none : HIx 1) Set.univ := fun t => by
  have ht : t.val < 8 := Nat.lt_of_lt_of_eq t.isLt N_2
  rw [bigSep_W2, bigSep_W2, show defs₀ (F := F) .tc cfg2.body (cfg2.bodyArgs t (cfg2.slots t)) = bodyAt2 t from rfl]
  unfold bodyAt2
  rw [body2_eq]
  simp only [before2_0, before2_1]
  rw [phi2_castSucc, show (dat2 V c).Φ t.succ = phi2 V c (t.val + 1) t.isLt from rfl,
    show (dat2 V c).owesAt none t.succ = (dat2 V c).owesAt none t.castSucc from rfl]
  unfold phi2
  iintro ⟨⟨HS, HR⟩, Ho, ⟨%d0, H0⟩, ⟨%d1, H1⟩, ⟨%d2, H2⟩⟩
  ihave Hw := (point_run c (grid2.coords t) (st2_0 t) (hstage2_0 ((cfg2.slots t 0).cast nbuf2_0)) (st2_1 t) (hstage2_1 ((cfg2.slots t 1).cast nbuf2_1))
    (st2_2 t) (hstage2_2 ((cfg2.slots t 2).cast nbuf2_2)) (Memref.whole cc2_scratch0) (Memref.isWhole_whole _) (Memref.whole cc2_scratch1) (Memref.isWhole_whole _)
    (Memref.whole cc2_scratch2) (Memref.isWhole_whole _) (q2 V) (r2 V) t (first_iff (grid2.coords t) t.val ht (coords2 t)) ((dat2 V c).before 2 t d2)) $$ [HS H0 H1 H2]
  · isplitl [HS]; · iexact HS
    isplitl [H0]; · iexact H0
    isplitl [H1]; · iexact H1
    iexact H2
  ihave Hww := (wp_wand _ _ _) $$ Hw
  iapply Hww
  iintro %r ⟨HS, H0, H1, H2⟩
  isplitl [HS HR]
  · isplitl [HS]; · iexact HS
    iexact HR
  isplitl [Ho]; · iexact Ho
  isplitl [H0]; · iapply (Entails.of_eq (by rw [after2_0])) $$ H0
  isplitl [H1]; · iapply (Entails.of_eq (by rw [after2_1])) $$ H1
  iapply (left2 V c t d2) $$ H2

/-- What the call is entered with gives the invariant before the first point. -/
theorem hin2 (c : Dev nD) : iprop(Pipeline.scopedRest spec2 c ∗ ∃ r, prngReg c r) ⊢ (dat2 V c).Φ 0 := by
  rw [show (dat2 V c).Φ 0 = phi2 V c 0 (Nat.zero_le _) from rfl, scopedRest2_split]
  unfold phi2 scrPhi
  simp only [owns_whole]
  iintro ⟨⟨HS, HB⟩, Hg⟩
  isplitl [HS]; · iexact HS
  isplitl [HB]; · iexact HB
  iexact Hg

/-- The invariant after the last point gives it back. -/
theorem hout2 (c : Dev nD) : (dat2 V c).Φ (Fin.last cfg2.N) ⊢ iprop(Pipeline.scopedRest spec2 c ∗ ∃ r, prngReg c r) := by
  rw [show (dat2 V c).Φ (Fin.last cfg2.N) = phi2 V c cfg2.N le_rfl from rfl, scopedRest2_split]
  unfold phi2
  refine (sep_mono (scrPhi_any _ _ _ _ _ _ _ _) .rfl).trans ?_
  simp only [owns_whole]
  iintro ⟨HS, HB, Hg⟩
  isplitr [Hg]
  · isplitl [HS]; · iexact HS
    iexact HB
  iexact Hg

end Cert.KernelIdeal.Hash
-- ==== Proof.KernelIdeal.TcCall3.lean ====
/-
  The third attention call as a pipeline: its proof data at the contents the call is entered with, and the body's
  obligation at every grid point.
-/
module

public import proofs.«01_k».proof.Proof.KernelIdeal.TcPoint

@[expose] public section

set_option maxRecDepth 16384

noncomputable section

namespace Cert.KernelIdeal.Hash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Pipeline (Dat Cfg Window BodyObligation)

variable {F : FTy → Type} [FloatOps F]

local notation "𝕄" => MT nD τ sig (HIx 1) (Elt F) ℕ UU ℕ

variable (V : Valuation τ sig (Elt F))

/-- The query block a point reads. -/
def q3 (t : Fin cfg3.N) : Vec F S1x2048x64 .f32 :=
  ((cfg3.win 0).blk t).view.read (Elt F) (V (Proc.devRef .tc (Pipeline.arrRef spec3 0)))
/-- The gathered rows a point reads. -/
def r3 (t : Fin cfg3.N) : Vec F S8192x128 .f32 :=
  ((cfg3.win 1).blk t).view.read (Elt F) (V (Proc.devRef .tc (Pipeline.arrRef spec3 1)))

/-- The other scoped buffers and the generator register. -/
abbrev rest3 (c : Dev nD) : sProp 𝕄 :=
  iprop(Pipeline.scopedRestBut spec3 c [cc3_scratch0, cc3_scratch1, cc3_scratch2] ∗ ∃ r, prngReg c r)

/-- The invariant before a point: the scratch, and the rest. -/
def phi3 (c : Dev nD) (n : ℕ) (h : n ≤ cfg3.N) : sProp 𝕄 :=
  iprop(scrPhi (q3 V) (r3 V) c (Memref.whole cc3_scratch0) (Memref.whole cc3_scratch1) (Memref.whole cc3_scratch2) n h ∗ rest3 c)

/-- The proof data of the call: the arrays as it finds them; after a point the inputs' blocks in place and the output block at
    the quotient of the scratch. -/
def dat3 (c : Dev nD) : Dat τ (Elt F) (HIx 1) ℕ UU ℕ cfg3 c where
  A w := V (Proc.devRef .tc (Pipeline.arrRef spec3 w))
  after w t := match w with
    | ⟨0, _⟩ => q3 V t
    | ⟨1, _⟩ => r3 V t
    | ⟨2, _⟩ => outAt (q3 V) (r3 V) t.val t.isLt
  Φ t := phi3 V c t.val (Nat.le_of_lt_succ t.isLt)
  q _ := fullShare
  owed _ := 0

theorem A3_eq (c : Dev nD) (w : Fin cfg3.W) : (dat3 V c).A w = V (Proc.devRef .tc (Pipeline.arrRef spec3 w)) := by dsimp only [dat3]
theorem phi3_castSucc (c : Dev nD) (t : Fin cfg3.N) : (dat3 V c).Φ t.castSucc = phi3 V c t.val (Nat.le_of_lt t.isLt) := by
  dsimp only [dat3]; exact Pipeline.Dat.Φ_castSucc (phi3 V c) t
theorem after3_0 (c : Dev nD) (t : Fin cfg3.N) : (dat3 V c).after 0 t = q3 V t := by dsimp only [dat3]
theorem after3_1 (c : Dev nD) (t : Fin cfg3.N) : (dat3 V c).after 1 t = r3 V t := by dsimp only [dat3]
theorem after3_2 (c : Dev nD) (t : Fin cfg3.N) : (dat3 V c).after 2 t = outAt (q3 V) (r3 V) t.val t.isLt := by dsimp only [dat3]

/-- At every point the query window's buffer holds its block. -/
theorem before3_0 (c : Dev nD) (t : Fin cfg3.N) (d) : (dat3 V c).before 0 t d = q3 V t :=
  ((dat3 V c).before_in_eq_fetched 0 rfl (fun _ => rfl) (fun _ _ _ => rfl) (fun t => by rw [after3_0]; unfold Dat.blockOf q3; rw [A3_eq]) t d).trans
    (by unfold Dat.fetched Dat.blockOf q3; rw [A3_eq]; rfl)
/-- At every point the rows window's buffer holds its block. -/
theorem before3_1 (c : Dev nD) (t : Fin cfg3.N) (d) : (dat3 V c).before 1 t d = r3 V t :=
  ((dat3 V c).before_in_eq_fetched 1 rfl (fun _ => rfl) (fun _ _ _ => rfl) (fun t => by rw [after3_1]; unfold Dat.blockOf r3; rw [A3_eq]) t d).trans
    (by unfold Dat.fetched Dat.blockOf r3; rw [A3_eq]; rfl)

theorem coords3 (t : Fin cfg3.N) : (grid3.coords t 0).val = t.val :=
  (show (grid3.coords t 0).val = t.val / 1 % 8 from Pipeline.Grid.coords_val t 0 (by decide) rfl).trans (by
    have ht : t.val < 8 := Nat.lt_of_lt_of_eq t.isLt N_3
    omega)

/-- What the point leaves of the output block is what the pipeline asks for. -/
theorem left3 (c : Dev nD) (t : Fin cfg3.N) (d : Vec F S2048x64 .f32) :
    (owns (c : Thread nD τ) (st3_2 t) fullShare (if last (grid3.coords t) then outAt (q3 V) (r3 V) t.val t.isLt else (dat3 V c).before 2 t d) : sProp 𝕄)
      ⊢ (match cfg3.idle 2 (cfg3.grid.coords t) with
        | true => match (cfg3.win 2).flush t with
          | false => iprop(∃ d, owns (c : Thread nD τ) ((cfg3.win 2).stage (cfg3.slots t 2)) fullShare ((dat3 V c).before 2 t d))
          | true => owns (c : Thread nD τ) ((cfg3.win 2).stage (cfg3.slots t 2)) fullShare ((dat3 V c).after 2 t)
        | false => owns (c : Thread nD τ) ((cfg3.win 2).stage (cfg3.slots t 2)) fullShare ((dat3 V c).after 2 t) : sProp 𝕄) := by
  have ht : t.val < 8 := Nat.lt_of_lt_of_eq t.isLt N_3
  have hl := last_iff (grid3.coords t) t.val ht (coords3 t)
  by_cases h : t.val = 7
  · have h1 : last (grid3.coords t) := hl.mpr h
    rw [if_pos h1, show cfg3.idle 2 (cfg3.grid.coords t) = false from by
      show (!(k3_cond2 (grid3.coords t) == 1#1)) = false
      rw [show k3_cond2 (grid3.coords t) = 1#1 from h1]; rfl]
    dsimp only
    rw [after3_2]
  · have h1 : ¬ last (grid3.coords t) := fun hh => h (hl.mp hh)
    rw [if_neg h1, show cfg3.idle 2 (cfg3.grid.coords t) = true from by
      show (!(k3_cond2 (grid3.coords t) == 1#1)) = true
      rw [Bool.not_eq_true', beq_eq_false_iff_ne]; exact h1,
      show (cfg3.win 2).flush t = false from Bool.eq_false_iff.mpr fun hh => h (by have := (flush3_2 t).mp hh; omega)]
    dsimp only
    iintro H
    iexists d
    iexact H

/-- The body's obligation, at every point: the body is the first call's. -/
theorem body3 (c : Dev nD) : BodyObligation (dat3 V c) (defs₀ (F := F)) Variants.none (none : HIx 1) Set.univ := fun t => by
  have ht : t.val < 8 := Nat.lt_of_lt_of_eq t.isLt N_3
  rw [bigSep_W3, bigSep_W3, show defs₀ (F := F) .tc cfg3.body (cfg3.bodyArgs t (cfg3.slots t)) = bodyAt3 t from rfl]
  unfold bodyAt3
  rw [body3_eq]
  simp only [before3_0, before3_1]
  rw [phi3_castSucc, show (dat3 V c).Φ t.succ = phi3 V c (t.val + 1) t.isLt from rfl,
    show (dat3 V c).owesAt none t.succ = (dat3 V c).owesAt none t.castSucc from rfl]
  unfold phi3
  iintro ⟨⟨HS, HR⟩, Ho, ⟨%d0, H0⟩, ⟨%d1, H1⟩, ⟨%d2, H2⟩⟩
  ihave Hw := (point_run c (grid3.coords t) (st3_0 t) (hstage3_0 ((cfg3.slots t 0).cast nbuf3_0)) (st3_1 t) (hstage3_1 ((cfg3.slots t 1).cast nbuf3_1))
    (st3_2 t) (hstage3_2 ((cfg3.slots t 2).cast nbuf3_2)) (Memref.whole cc3_scratch0) (Memref.isWhole_whole _) (Memref.whole cc3_scratch1) (Memref.isWhole_whole _)
    (Memref.whole cc3_scratch2) (Memref.isWhole_whole _) (q3 V) (r3 V) t (first_iff (grid3.coords t) t.val ht (coords3 t)) ((dat3 V c).before 2 t d2)) $$ [HS H0 H1 H2]
  · isplitl [HS]; · iexact HS
    isplitl [H0]; · iexact H0
    isplitl [H1]; · iexact H1
    iexact H2
  ihave Hww := (wp_wand _ _ _) $$ Hw
  iapply Hww
  iintro %r ⟨HS, H0, H1, H2⟩
  isplitl [HS HR]
  · isplitl [HS]; · iexact HS
    iexact HR
  isplitl [Ho]; · iexact Ho
  isplitl [H0]; · iapply (Entails.of_eq (by rw [after3_0])) $$ H0
  isplitl [H1]; · iapply (Entails.of_eq (by rw [after3_1])) $$ H1
  iapply (left3 V c t d2) $$ H2

/-- What the call is entered with gives the invariant before the first point. -/
theorem hin3 (c : Dev nD) : iprop(Pipeline.scopedRest spec3 c ∗ ∃ r, prngReg c r) ⊢ (dat3 V c).Φ 0 := by
  rw [show (dat3 V c).Φ 0 = phi3 V c 0 (Nat.zero_le _) from rfl, scopedRest3_split]
  unfold phi3 scrPhi
  simp only [owns_whole]
  iintro ⟨⟨HS, HB⟩, Hg⟩
  isplitl [HS]; · iexact HS
  isplitl [HB]; · iexact HB
  iexact Hg

/-- The invariant after the last point gives it back. -/
theorem hout3 (c : Dev nD) : (dat3 V c).Φ (Fin.last cfg3.N) ⊢ iprop(Pipeline.scopedRest spec3 c ∗ ∃ r, prngReg c r) := by
  rw [show (dat3 V c).Φ (Fin.last cfg3.N) = phi3 V c cfg3.N le_rfl from rfl, scopedRest3_split]
  unfold phi3
  refine (sep_mono (scrPhi_any _ _ _ _ _ _ _ _) .rfl).trans ?_
  simp only [owns_whole]
  iintro ⟨HS, HB, Hg⟩
  isplitr [Hg]
  · isplitl [HS]; · iexact HS
    iexact HB
  iexact Hg

end Cert.KernelIdeal.Hash
-- ==== Proof.KernelIdeal.TcCall4.lean ====
/-
  The fourth attention call as a pipeline: its proof data at the contents the call is entered with, and the body's
  obligation at every grid point.
-/
module

public import proofs.«01_k».proof.Proof.KernelIdeal.TcPoint

@[expose] public section

set_option maxRecDepth 16384

noncomputable section

namespace Cert.KernelIdeal.Hash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Pipeline (Dat Cfg Window BodyObligation)

variable {F : FTy → Type} [FloatOps F]

local notation "𝕄" => MT nD τ sig (HIx 1) (Elt F) ℕ UU ℕ

variable (V : Valuation τ sig (Elt F))

/-- The query block a point reads. -/
def q4 (t : Fin cfg4.N) : Vec F S1x2048x64 .f32 :=
  ((cfg4.win 0).blk t).view.read (Elt F) (V (Proc.devRef .tc (Pipeline.arrRef spec4 0)))
/-- The gathered rows a point reads. -/
def r4 (t : Fin cfg4.N) : Vec F S8192x128 .f32 :=
  ((cfg4.win 1).blk t).view.read (Elt F) (V (Proc.devRef .tc (Pipeline.arrRef spec4 1)))

/-- The other scoped buffers and the generator register. -/
abbrev rest4 (c : Dev nD) : sProp 𝕄 :=
  iprop(Pipeline.scopedRestBut spec4 c [cc4_scratch0, cc4_scratch1, cc4_scratch2] ∗ ∃ r, prngReg c r)

/-- The invariant before a point: the scratch, and the rest. -/
def phi4 (c : Dev nD) (n : ℕ) (h : n ≤ cfg4.N) : sProp 𝕄 :=
  iprop(scrPhi (q4 V) (r4 V) c (Memref.whole cc4_scratch0) (Memref.whole cc4_scratch1) (Memref.whole cc4_scratch2) n h ∗ rest4 c)

/-- The proof data of the call: the arrays as it finds them; after a point the inputs' blocks in place and the output block at
    the quotient of the scratch. -/
def dat4 (c : Dev nD) : Dat τ (Elt F) (HIx 1) ℕ UU ℕ cfg4 c where
  A w := V (Proc.devRef .tc (Pipeline.arrRef spec4 w))
  after w t := match w with
    | ⟨0, _⟩ => q4 V t
    | ⟨1, _⟩ => r4 V t
    | ⟨2, _⟩ => outAt (q4 V) (r4 V) t.val t.isLt
  Φ t := phi4 V c t.val (Nat.le_of_lt_succ t.isLt)
  q _ := fullShare
  owed _ := 0

theorem A4_eq (c : Dev nD) (w : Fin cfg4.W) : (dat4 V c).A w = V (Proc.devRef .tc (Pipeline.arrRef spec4 w)) := by dsimp only [dat4]
theorem phi4_castSucc (c : Dev nD) (t : Fin cfg4.N) : (dat4 V c).Φ t.castSucc = phi4 V c t.val (Nat.le_of_lt t.isLt) := by
  dsimp only [dat4]; exact Pipeline.Dat.Φ_castSucc (phi4 V c) t
theorem after4_0 (c : Dev nD) (t : Fin cfg4.N) : (dat4 V c).after 0 t = q4 V t := by dsimp only [dat4]
theorem after4_1 (c : Dev nD) (t : Fin cfg4.N) : (dat4 V c).after 1 t = r4 V t := by dsimp only [dat4]
theorem after4_2 (c : Dev nD) (t : Fin cfg4.N) : (dat4 V c).after 2 t = outAt (q4 V) (r4 V) t.val t.isLt := by dsimp only [dat4]

/-- At every point the query window's buffer holds its block. -/
theorem before4_0 (c : Dev nD) (t : Fin cfg4.N) (d) : (dat4 V c).before 0 t d = q4 V t :=
  ((dat4 V c).before_in_eq_fetched 0 rfl (fun _ => rfl) (fun _ _ _ => rfl) (fun t => by rw [after4_0]; unfold Dat.blockOf q4; rw [A4_eq]) t d).trans
    (by unfold Dat.fetched Dat.blockOf q4; rw [A4_eq]; rfl)
/-- At every point the rows window's buffer holds its block. -/
theorem before4_1 (c : Dev nD) (t : Fin cfg4.N) (d) : (dat4 V c).before 1 t d = r4 V t :=
  ((dat4 V c).before_in_eq_fetched 1 rfl (fun _ => rfl) (fun _ _ _ => rfl) (fun t => by rw [after4_1]; unfold Dat.blockOf r4; rw [A4_eq]) t d).trans
    (by unfold Dat.fetched Dat.blockOf r4; rw [A4_eq]; rfl)

theorem coords4 (t : Fin cfg4.N) : (grid4.coords t 0).val = t.val :=
  (show (grid4.coords t 0).val = t.val / 1 % 8 from Pipeline.Grid.coords_val t 0 (by decide) rfl).trans (by
    have ht : t.val < 8 := Nat.lt_of_lt_of_eq t.isLt N_4
    omega)

/-- What the point leaves of the output block is what the pipeline asks for. -/
theorem left4 (c : Dev nD) (t : Fin cfg4.N) (d : Vec F S2048x64 .f32) :
    (owns (c : Thread nD τ) (st4_2 t) fullShare (if last (grid4.coords t) then outAt (q4 V) (r4 V) t.val t.isLt else (dat4 V c).before 2 t d) : sProp 𝕄)
      ⊢ (match cfg4.idle 2 (cfg4.grid.coords t) with
        | true => match (cfg4.win 2).flush t with
          | false => iprop(∃ d, owns (c : Thread nD τ) ((cfg4.win 2).stage (cfg4.slots t 2)) fullShare ((dat4 V c).before 2 t d))
          | true => owns (c : Thread nD τ) ((cfg4.win 2).stage (cfg4.slots t 2)) fullShare ((dat4 V c).after 2 t)
        | false => owns (c : Thread nD τ) ((cfg4.win 2).stage (cfg4.slots t 2)) fullShare ((dat4 V c).after 2 t) : sProp 𝕄) := by
  have ht : t.val < 8 := Nat.lt_of_lt_of_eq t.isLt N_4
  have hl := last_iff (grid4.coords t) t.val ht (coords4 t)
  by_cases h : t.val = 7
  · have h1 : last (grid4.coords t) := hl.mpr h
    rw [if_pos h1, show cfg4.idle 2 (cfg4.grid.coords t) = false from by
      show (!(k4_cond2 (grid4.coords t) == 1#1)) = false
      rw [show k4_cond2 (grid4.coords t) = 1#1 from h1]; rfl]
    dsimp only
    rw [after4_2]
  · have h1 : ¬ last (grid4.coords t) := fun hh => h (hl.mp hh)
    rw [if_neg h1, show cfg4.idle 2 (cfg4.grid.coords t) = true from by
      show (!(k4_cond2 (grid4.coords t) == 1#1)) = true
      rw [Bool.not_eq_true', beq_eq_false_iff_ne]; exact h1,
      show (cfg4.win 2).flush t = false from Bool.eq_false_iff.mpr fun hh => h (by have := (flush4_2 t).mp hh; omega)]
    dsimp only
    iintro H
    iexists d
    iexact H

/-- The body's obligation, at every point: the body is the first call's. -/
theorem body4 (c : Dev nD) : BodyObligation (dat4 V c) (defs₀ (F := F)) Variants.none (none : HIx 1) Set.univ := fun t => by
  have ht : t.val < 8 := Nat.lt_of_lt_of_eq t.isLt N_4
  rw [bigSep_W4, bigSep_W4, show defs₀ (F := F) .tc cfg4.body (cfg4.bodyArgs t (cfg4.slots t)) = bodyAt4 t from rfl]
  unfold bodyAt4
  rw [body4_eq]
  simp only [before4_0, before4_1]
  rw [phi4_castSucc, show (dat4 V c).Φ t.succ = phi4 V c (t.val + 1) t.isLt from rfl,
    show (dat4 V c).owesAt none t.succ = (dat4 V c).owesAt none t.castSucc from rfl]
  unfold phi4
  iintro ⟨⟨HS, HR⟩, Ho, ⟨%d0, H0⟩, ⟨%d1, H1⟩, ⟨%d2, H2⟩⟩
  ihave Hw := (point_run c (grid4.coords t) (st4_0 t) (hstage4_0 ((cfg4.slots t 0).cast nbuf4_0)) (st4_1 t) (hstage4_1 ((cfg4.slots t 1).cast nbuf4_1))
    (st4_2 t) (hstage4_2 ((cfg4.slots t 2).cast nbuf4_2)) (Memref.whole cc4_scratch0) (Memref.isWhole_whole _) (Memref.whole cc4_scratch1) (Memref.isWhole_whole _)
    (Memref.whole cc4_scratch2) (Memref.isWhole_whole _) (q4 V) (r4 V) t (first_iff (grid4.coords t) t.val ht (coords4 t)) ((dat4 V c).before 2 t d2)) $$ [HS H0 H1 H2]
  · isplitl [HS]; · iexact HS
    isplitl [H0]; · iexact H0
    isplitl [H1]; · iexact H1
    iexact H2
  ihave Hww := (wp_wand _ _ _) $$ Hw
  iapply Hww
  iintro %r ⟨HS, H0, H1, H2⟩
  isplitl [HS HR]
  · isplitl [HS]; · iexact HS
    iexact HR
  isplitl [Ho]; · iexact Ho
  isplitl [H0]; · iapply (Entails.of_eq (by rw [after4_0])) $$ H0
  isplitl [H1]; · iapply (Entails.of_eq (by rw [after4_1])) $$ H1
  iapply (left4 V c t d2) $$ H2

/-- What the call is entered with gives the invariant before the first point. -/
theorem hin4 (c : Dev nD) : iprop(Pipeline.scopedRest spec4 c ∗ ∃ r, prngReg c r) ⊢ (dat4 V c).Φ 0 := by
  rw [show (dat4 V c).Φ 0 = phi4 V c 0 (Nat.zero_le _) from rfl, scopedRest4_split]
  unfold phi4 scrPhi
  simp only [owns_whole]
  iintro ⟨⟨HS, HB⟩, Hg⟩
  isplitl [HS]; · iexact HS
  isplitl [HB]; · iexact HB
  iexact Hg

/-- The invariant after the last point gives it back. -/
theorem hout4 (c : Dev nD) : (dat4 V c).Φ (Fin.last cfg4.N) ⊢ iprop(Pipeline.scopedRest spec4 c ∗ ∃ r, prngReg c r) := by
  rw [show (dat4 V c).Φ (Fin.last cfg4.N) = phi4 V c cfg4.N le_rfl from rfl, scopedRest4_split]
  unfold phi4
  refine (sep_mono (scrPhi_any _ _ _ _ _ _ _ _) .rfl).trans ?_
  simp only [owns_whole]
  iintro ⟨HS, HB, Hg⟩
  isplitr [Hg]
  · isplitl [HS]; · iexact HS
    iexact HB
  iexact Hg

end Cert.KernelIdeal.Hash
-- ==== Proof.KernelIdeal.Segs.lean ====
/-
  The four attention calls and the host lines around them as segments of @main, each entered from all the unscoped
  buffers at one valuation and left at the next.
-/
module

public import proofs.«01_k».proof.Proof.KernelIdeal.TcCall1
public import proofs.«01_k».proof.Proof.KernelIdeal.TcCall2
public import proofs.«01_k».proof.Proof.KernelIdeal.TcCall3
public import proofs.«01_k».proof.Proof.KernelIdeal.TcCall4
public import Idealize.ShloMosaic.Lib.Pipeline.Regions
public import Idealize.ShloMosaic.Lib.Pipeline.RegionArraysS
public import Idealize.ShloMosaic.Lib.Pipeline.FrameTail

@[expose] public section

set_option maxRecDepth 16384

noncomputable section

namespace Cert.KernelIdeal.Hash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Pipeline (Dat Cfg Window BodyObligation)

variable {F : FTy → Type} [FloatOps F]

local notation "𝕄" => MT nD τ sig (HIx 1) (Elt F) ℕ UU ℕ

/-- Where the pipelines' rounds lie. -/
abbrev EP : Emb UP (MT nD τ sig (HIx 1) (Elt F) ℕ UU ℕ) := (Emb.inl : Emb UP (UP × Counters)).trans embR

/-- The host lines before the SparseCore call: keys beside values, flattened; the indices flattened. -/
def opsA : List (HloOp τ sig (Elt F)) :=
  [StableHlo.binary main_arg1 main_arg2 main_v0 ((fun a b => concatenate S4x8192x128 2 [⟨S4x8192x64, a⟩, ⟨S4x8192x64, b⟩] concatenates_S4x8192x64_S4x8192x64_S4x8192x128_d2) : (⟨S4x8192x64, .f32⟩ : BufTy).Contents (Elt F) → (⟨S4x8192x64, .f32⟩ : BufTy).Contents (Elt F) → (⟨S4x8192x128, .f32⟩ : BufTy).Contents (Elt F)),
    StableHlo.reshape main_v0 main_v1 (rfl : (.f32 : EltTy) = .f32) shapeCasts_S4x8192x128_S32768x128,
    StableHlo.reshape main_arg3 main_v2 (rfl : (.i32 : EltTy) = .i32) shapeCasts_S4x65536_S262144]

/-- The host lines after the attention calls: the four results stacked. -/
def opsB : List (HloOp τ sig (Elt F)) :=
  [StableHlo.unary main_v4 main_v8 (broadcastInDim S1x2048x64 ![1, 2] bcast_S2048x64_S1x2048x64_1_2 : (⟨S2048x64, .f32⟩ : BufTy).Contents (Elt F) → (⟨S1x2048x64, .f32⟩ : BufTy).Contents (Elt F)),
    StableHlo.unary main_v5 main_v9 (broadcastInDim S1x2048x64 ![1, 2] bcast_S2048x64_S1x2048x64_1_2 : (⟨S2048x64, .f32⟩ : BufTy).Contents (Elt F) → (⟨S1x2048x64, .f32⟩ : BufTy).Contents (Elt F)),
    StableHlo.unary main_v6 main_v10 (broadcastInDim S1x2048x64 ![1, 2] bcast_S2048x64_S1x2048x64_1_2 : (⟨S2048x64, .f32⟩ : BufTy).Contents (Elt F) → (⟨S1x2048x64, .f32⟩ : BufTy).Contents (Elt F)),
    StableHlo.unary main_v7 main_v11 (broadcastInDim S1x2048x64 ![1, 2] bcast_S2048x64_S1x2048x64_1_2 : (⟨S2048x64, .f32⟩ : BufTy).Contents (Elt F) → (⟨S1x2048x64, .f32⟩ : BufTy).Contents (Elt F)),
    StableHlo.nary ![main_v8, main_v9, main_v10, main_v11] main_v12 (fun u => (concatenate S4x2048x64 0 [⟨S1x2048x64, (u 0 : (⟨S1x2048x64, .f32⟩ : BufTy).Contents (Elt F))⟩, ⟨S1x2048x64, (u 1 : (⟨S1x2048x64, .f32⟩ : BufTy).Contents (Elt F))⟩, ⟨S1x2048x64, (u 2 : (⟨S1x2048x64, .f32⟩ : BufTy).Contents (Elt F))⟩, ⟨S1x2048x64, (u 3 : (⟨S1x2048x64, .f32⟩ : BufTy).Contents (Elt F))⟩] concatenates_S1x2048x64_S1x2048x64_S1x2048x64_S1x2048x64_S4x2048x64_d0 : (⟨S4x2048x64, .f32⟩ : BufTy).Contents (Elt F)))]

section Segs

variable (W : Dev nD → Valuation τ sig (Elt F))

/-- The contents after each attention call, entered at `W`. -/
def wB (c : Dev nD) : Valuation τ sig (Elt F) := Pipeline.afterRegion (dat1 (W c) c) (W c)
def wC (c : Dev nD) : Valuation τ sig (Elt F) := Pipeline.afterRegion (dat2 (wB W c) c) (wB W c)
def wD (c : Dev nD) : Valuation τ sig (Elt F) := Pipeline.afterRegion (dat3 (wC W c) c) (wC W c)
def wE (c : Dev nD) : Valuation τ sig (Elt F) := Pipeline.afterRegion (dat4 (wD W c) c) (wD W c)
/-- And after the last host lines. -/
def wF (c : Dev nD) : Valuation τ sig (Elt F) := StableHlo.after opsB (wE W c)

/-- The pipelines' contents: nothing is prefetched. -/
abbrev adm : (p : Fin 4) → (pcfgs (F := F) p).Adm := fun p => (cfgs p).toPCfg_adm

/-- The calls' proof data, each at the contents it is entered with. -/
def pdats : (p : Fin 4) → (c : Dev nD) → Dat τ (Elt F) (HIx 1) ℕ UU ℕ (Pipeline.pin (pcfgs (F := F)) (adm (F := F)) p) c
  | ⟨0, _⟩ => fun c => dat1 (W c) c
  | ⟨1, _⟩ => fun c => dat2 (wB W c) c
  | ⟨2, _⟩ => fun c => dat3 (wC W c) c
  | ⟨3, _⟩ => fun c => dat4 (wD W c) c

/-- What rides along beside the buffers: the generator register. -/
abbrev reg (c : Dev nD) : sProp 𝕄 := iprop(∃ r, prngReg c r)
/-- The thread's state between segments, at a valuation. -/
abbrev at' (V : Dev nD → Valuation τ sig (Elt F)) (c : Dev nD) : sProp 𝕄 :=
  iprop(StableHlo.held (c.tc : Thread nD τ) (Pipeline.ucRefs τ sig) (V c)
    ∗ ((∃ Wd, owes (c : Thread nD τ) (0 : CellTallies nD τ sig (HIx 1)) Wd) ∗ reg c ∗ emp))

theorem cut (p : Fin 4) : Pipeline.LevelCut (pcfgs (F := F)) (adm (F := F)) (none : HIx 1) (K (F := F)).L (K (F := F)).lev p (fun _ : Dev nD => (0 : CellTallies nD τ sig (HIx 1))) fun _ => 0 where
  hι c w s := Finset.mem_univ _
  hιb c w s := le_of_eq rfl
  hD c g i h := absurd h (by simp)

/-- Attention call 1 as a segment. -/
def seg1 : Pipeline.RegionSeg (Name := ℕ) (U := UU) (pcfgs (F := F)) (adm (F := F)) (pdats W) (none : HIx 1) defs₀ Variants.none (K (F := F)).L (K (F := F)).lev 0 :=
  Pipeline.RegionSeg.ofHeldIn (pcfgs (F := F)) (adm (F := F)) (pdats W) (none : HIx 1) defs₀ Variants.none (K (F := F)).L (K (F := F)).lev 0 (fun _ => 0)
    (Pipeline.ucRefs τ sig) reg reg launch1.toP rfl (fun c => (body1 (W c) c).loose) (fun _ _ => rfl) (fun _ => rfl)
    (fun c => (dat1 (W c) c).share_full fun _ => rfl) (fun c => hin1 (W c) c) (fun c => hout1 (W c) c)
    (fun _ => 0) (cut 0) (fun _ => iprop(emp)) (W) (fun c w => A1_eq (W c) c w)

theorem arr_sub1 : Pipeline.arrRefs (τ := τ) (pcfgs (F := F) 0).spec ⊆ Pipeline.ucRefs τ sig :=
  Pipeline.arrRefs_sub_ucRefs (τ := τ) spec1 winFacts1.arr_unscoped

theorem seg1_pre (c : Dev nD) : at' (W) c ⊢ (seg1 W).pre c := by
  unfold seg1
  exact Pipeline.RegionSeg.ofHeldIn_pre (pdats := pdats W) (D := fun _ => 0) (X := reg) (Y := reg) (R := fun _ => iprop(emp)) (W := W) arr_sub1 c
theorem seg1_post (c : Dev nD) : (seg1 W).post c ⊢ at' (wB W) c := by
  unfold seg1
  exact Pipeline.RegionSeg.ofHeldIn_post (pdats := pdats W) (D := fun _ => 0) (X := reg) (Y := reg) (R := fun _ => iprop(emp)) (W := W) arr_sub1 c

/-- Attention call 2 as a segment. -/
def seg2 : Pipeline.RegionSeg (Name := ℕ) (U := UU) (pcfgs (F := F)) (adm (F := F)) (pdats W) (none : HIx 1) defs₀ Variants.none (K (F := F)).L (K (F := F)).lev 1 :=
  Pipeline.RegionSeg.ofHeldIn (pcfgs (F := F)) (adm (F := F)) (pdats W) (none : HIx 1) defs₀ Variants.none (K (F := F)).L (K (F := F)).lev 1 (fun _ => 0)
    (Pipeline.ucRefs τ sig) reg reg launch2.toP rfl (fun c => (body2 (wB W c) c).loose) (fun _ _ => rfl) (fun _ => rfl)
    (fun c => (dat2 (wB W c) c).share_full fun _ => rfl) (fun c => hin2 (wB W c) c) (fun c => hout2 (wB W c) c)
    (fun _ => 0) (cut 1) (fun _ => iprop(emp)) (wB W) (fun c w => A2_eq (wB W c) c w)

theorem arr_sub2 : Pipeline.arrRefs (τ := τ) (pcfgs (F := F) 1).spec ⊆ Pipeline.ucRefs τ sig :=
  Pipeline.arrRefs_sub_ucRefs (τ := τ) spec2 winFacts2.arr_unscoped

theorem seg2_pre (c : Dev nD) : at' (wB W) c ⊢ (seg2 W).pre c := by
  unfold seg2
  exact Pipeline.RegionSeg.ofHeldIn_pre (pdats := pdats W) (D := fun _ => 0) (X := reg) (Y := reg) (R := fun _ => iprop(emp)) (W := wB W) arr_sub2 c
theorem seg2_post (c : Dev nD) : (seg2 W).post c ⊢ at' (wC W) c := by
  unfold seg2
  exact Pipeline.RegionSeg.ofHeldIn_post (pdats := pdats W) (D := fun _ => 0) (X := reg) (Y := reg) (R := fun _ => iprop(emp)) (W := wB W) arr_sub2 c

/-- Attention call 3 as a segment. -/
def seg3 : Pipeline.RegionSeg (Name := ℕ) (U := UU) (pcfgs (F := F)) (adm (F := F)) (pdats W) (none : HIx 1) defs₀ Variants.none (K (F := F)).L (K (F := F)).lev 2 :=
  Pipeline.RegionSeg.ofHeldIn (pcfgs (F := F)) (adm (F := F)) (pdats W) (none : HIx 1) defs₀ Variants.none (K (F := F)).L (K (F := F)).lev 2 (fun _ => 0)
    (Pipeline.ucRefs τ sig) reg reg launch3.toP rfl (fun c => (body3 (wC W c) c).loose) (fun _ _ => rfl) (fun _ => rfl)
    (fun c => (dat3 (wC W c) c).share_full fun _ => rfl) (fun c => hin3 (wC W c) c) (fun c => hout3 (wC W c) c)
    (fun _ => 0) (cut 2) (fun _ => iprop(emp)) (wC W) (fun c w => A3_eq (wC W c) c w)

theorem arr_sub3 : Pipeline.arrRefs (τ := τ) (pcfgs (F := F) 2).spec ⊆ Pipeline.ucRefs τ sig :=
  Pipeline.arrRefs_sub_ucRefs (τ := τ) spec3 winFacts3.arr_unscoped

theorem seg3_pre (c : Dev nD) : at' (wC W) c ⊢ (seg3 W).pre c := by
  unfold seg3
  exact Pipeline.RegionSeg.ofHeldIn_pre (pdats := pdats W) (D := fun _ => 0) (X := reg) (Y := reg) (R := fun _ => iprop(emp)) (W := wC W) arr_sub3 c
theorem seg3_post (c : Dev nD) : (seg3 W).post c ⊢ at' (wD W) c := by
  unfold seg3
  exact Pipeline.RegionSeg.ofHeldIn_post (pdats := pdats W) (D := fun _ => 0) (X := reg) (Y := reg) (R := fun _ => iprop(emp)) (W := wC W) arr_sub3 c

/-- Attention call 4 as a segment. -/
def seg4 : Pipeline.RegionSeg (Name := ℕ) (U := UU) (pcfgs (F := F)) (adm (F := F)) (pdats W) (none : HIx 1) defs₀ Variants.none (K (F := F)).L (K (F := F)).lev 3 :=
  Pipeline.RegionSeg.ofHeldIn (pcfgs (F := F)) (adm (F := F)) (pdats W) (none : HIx 1) defs₀ Variants.none (K (F := F)).L (K (F := F)).lev 3 (fun _ => 0)
    (Pipeline.ucRefs τ sig) reg reg launch4.toP rfl (fun c => (body4 (wD W c) c).loose) (fun _ _ => rfl) (fun _ => rfl)
    (fun c => (dat4 (wD W c) c).share_full fun _ => rfl) (fun c => hin4 (wD W c) c) (fun c => hout4 (wD W c) c)
    (fun _ => 0) (cut 3) (fun _ => iprop(emp)) (wD W) (fun c w => A4_eq (wD W c) c w)

theorem arr_sub4 : Pipeline.arrRefs (τ := τ) (pcfgs (F := F) 3).spec ⊆ Pipeline.ucRefs τ sig :=
  Pipeline.arrRefs_sub_ucRefs (τ := τ) spec4 winFacts4.arr_unscoped

theorem seg4_pre (c : Dev nD) : at' (wD W) c ⊢ (seg4 W).pre c := by
  unfold seg4
  exact Pipeline.RegionSeg.ofHeldIn_pre (pdats := pdats W) (D := fun _ => 0) (X := reg) (Y := reg) (R := fun _ => iprop(emp)) (W := wD W) arr_sub4 c
theorem seg4_post (c : Dev nD) : (seg4 W).post c ⊢ at' (wE W) c := by
  unfold seg4
  exact Pipeline.RegionSeg.ofHeldIn_post (pdats := pdats W) (D := fun _ => 0) (X := reg) (Y := reg) (R := fun _ => iprop(emp)) (W := wD W) arr_sub4 c

theorem opsA_sub : ∀ op ∈ opsA (F := F), op.bufs ⊆ Pipeline.ucRefs τ sig := by
  unfold opsA
  simp only [List.mem_cons, List.not_mem_nil, or_false, forall_eq_or_imp, forall_eq]
  exact ⟨Pipeline.sub_ucRefs _ (StableHlo.binary_bufs_sub ..), Pipeline.sub_ucRefs _ (StableHlo.reshape_bufs_sub ..), Pipeline.sub_ucRefs _ (StableHlo.reshape_bufs_sub ..)⟩
theorem opsA_fresh : ∀ op ∈ opsA (F := F), op.fresh = ∅ := by
  unfold opsA
  simp only [List.mem_cons, List.not_mem_nil, or_false, forall_eq_or_imp, forall_eq]
  exact ⟨rfl, rfl, rfl⟩
theorem opsB_sub : ∀ op ∈ opsB (F := F), op.bufs ⊆ Pipeline.ucRefs τ sig := by
  unfold opsB
  simp only [List.mem_cons, List.not_mem_nil, or_false, forall_eq_or_imp, forall_eq]
  exact ⟨Pipeline.sub_ucRefs _ (StableHlo.unary_bufs_sub ..), Pipeline.sub_ucRefs _ (StableHlo.unary_bufs_sub ..), Pipeline.sub_ucRefs _ (StableHlo.unary_bufs_sub ..),
    Pipeline.sub_ucRefs _ (StableHlo.unary_bufs_sub ..), Pipeline.sub_ucRefs _ (StableHlo.nary_bufs_sub ..)⟩
theorem opsB_fresh : ∀ op ∈ opsB (F := F), op.fresh = ∅ := by
  unfold opsB
  simp only [List.mem_cons, List.not_mem_nil, or_false, forall_eq_or_imp, forall_eq]
  exact ⟨rfl, rfl, rfl, rfl, rfl⟩

/-- The last host lines as a segment. -/
def tailSeg : Pipeline.HostSeg (Ix := HIx 1) (Name := ℕ) (U := UU) (pcfgs (F := F)) defs₀ Variants.none (K (F := F)).L (K (F := F)).lev :=
  Pipeline.HostSeg.ofOps (pcfgs (F := F)) defs₀ Variants.none (K (F := F)).L (K (F := F)).lev (Pipeline.ucRefs τ sig) opsB opsB_sub opsB_fresh (wE W)
    fun c => iprop((∃ Wd, owes (c : Thread nD τ) (0 : CellTallies nD τ sig (HIx 1)) Wd) ∗ reg c ∗ emp)

/-- @main after the SparseCore call. -/
abbrev segs : List (Pipeline.Seg (Name := ℕ) (U := UU) (pcfgs (F := F)) (adm (F := F)) (pdats W) (none : HIx 1) defs₀ Variants.none (K (F := F)).L (K (F := F)).lev) :=
  [.region (seg1 W), .region (seg2 W), .region (seg3 W), .region (seg4 W), .host (tailSeg W)]

/-- The segments chain from the contents after the SparseCore call to the final ones. -/
theorem chain : Pipeline.Seg.Chains (at' W) (segs W) (at' (wF W)) :=
  ⟨seg1_pre W, fun c => (seg1_post W c).trans (seg2_pre W c), fun c => (seg2_post W c).trans (seg3_pre W c), fun c => (seg3_post W c).trans (seg4_pre W c),
    seg4_post W, fun _ => .rfl⟩

theorem pipes_segs : Pipeline.Seg.pipes (segs W) = [0, 1, 2, 3] := rfl

/-- @main after the SparseCore call, as a program of the pipelines' body table. -/
def rest : Prog (TpuEff nD τ sig (Elt F) (ΛP (F := F)) .tc) PUnit :=
  .op (.customCall (Pipeline.entry 0) ()) fun _ => .op (.customCall (Pipeline.entry 1) ()) fun _ => .op (.customCall (Pipeline.entry 2) ()) fun _ =>
    .op (.customCall (Pipeline.entry 3) ()) fun _ => StableHlo.seq opsB >>= fun _ => .ret ⟨⟩

/-- That program runs from the contents `W` to the contents `wF W`. -/
theorem rest_wp (c : Dev nD) (Q : PUnit → sProp 𝕄) :
    iprop((iprop(boundary (c.tc : Thread nD τ) ∗ at' (wF W) c) -∗ Q ⟨⟩)
        ∗ boundary (c.tc : Thread nD τ) ∗ at' W c ∗ levAts (K (F := F)).L (K (F := F)).lev ∗ Pipeline.ghostOn (pcfgs (F := F)) (adm (F := F)) EP Finset.univ c)
      ⊢ wp frame (wpE (D (F := F)) 𝒱 (c.tc : Thread nD τ) none) Set.univ rest Q :=
  Pipeline.wp_segs (pcfgs (F := F)) (adm (F := F)) (pdats W) (none : HIx 1) cellOf_inj EP defs₀ Variants.none (K (F := F)).L (K (F := F)).lev c (segs W)
    Finset.univ (at' W) (at' (wF W)) (by rw [pipes_segs]; decide) (fun _ _ => Finset.mem_univ _) (chain W)

end Segs

end Cert.KernelIdeal.Hash

end
-- ==== Proof.KernelIdeal.Pay.lean ====
/-
  What the SparseCore call takes and brings back: each subcore its run of the index list, a share of the table and its
  run of the output. The pieces of all 32 subcores are the whole arrays.
-/
module

public import proofs.«01_k».proof.Proof.KernelIdeal.Tile
public import proofs.«01_k».proof.Proof.KernelIdeal.Segs

@[expose] public section

set_option maxRecDepth 16384

noncomputable section

namespace Cert.KernelIdeal.Hash

open Cert.KernelIdeal Cert.KernelIdeal.Gen
open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay)

variable {F : FTy → Type} [FloatOps F]

local notation "𝕄" => MT nD τ sig (HIx 1) (Elt F) ℕ UU ℕ

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The same from plain numbers. -/
def sub2 (c : Fin 2) (s : Fin 16) : grid0.Coords := coordsV c s

/-- The grid point of the pair `p`: its SparseCore, its subcore. -/
abbrev at2 (p : Fin 2 × Fin 16) : grid0.Coords := sub2 p.1 p.2

theorem base_at2 (p : Fin 2 × Fin 16) : base (at2 p) = 16384 * p.2.val + 8192 * p.1.val := rfl

omit [FloatOps F] in
theorem base_ne {p p' : Fin 2 × Fin 16} (h : p ≠ p') : base (at2 p) + 8192 ≤ base (at2 p') ∨ base (at2 p') + 8192 ≤ base (at2 p) := by
  rw [base_at2, base_at2]
  have h1 := p.1.isLt; have h2 := p'.1.isLt
  by_contra hc
  apply h
  refine Prod.ext (Fin.ext ?_) (Fin.ext ?_) <;> omega

omit [FloatOps F] in
theorem iTile_disj : ∀ p ∈ (Finset.univ : Finset (Fin 2 × Fin 16)), ∀ p' ∈ (Finset.univ : Finset (Fin 2 × Fin 16)), p ≠ p' → Disjoint (iTile (at2 p)) (iTile (at2 p')) := by
  intro p _ p' _ h
  rw [Finset.disjoint_left]
  intro x hx hx'
  simp only [iTile, Finset.mem_filter, Finset.mem_univ, true_and] at hx hx'
  rcases base_ne h with h | h <;> omega
omit [FloatOps F] in
theorem oTile_disj : ∀ p ∈ (Finset.univ : Finset (Fin 2 × Fin 16)), ∀ p' ∈ (Finset.univ : Finset (Fin 2 × Fin 16)), p ≠ p' → Disjoint (oTile (at2 p)) (oTile (at2 p')) := by
  intro p _ p' _ h
  rw [Finset.disjoint_left]
  intro x hx hx'
  simp only [oTile, Finset.mem_filter, Finset.mem_univ, true_and] at hx hx'
  rcases base_ne h with h | h <;> omega
omit [FloatOps F] in
theorem iTile_cover : (Finset.univ : Finset (Fin 2 × Fin 16)).biUnion (fun p => iTile (at2 p)) = Finset.univ := by
  ext x
  simp only [iTile, Finset.mem_biUnion, Finset.mem_filter, Finset.mem_univ, true_and, iff_true]
  have hx : (x 0).val < 262144 := (x 0).isLt
  refine ⟨(⟨(x 0).val / 8192 % 2, by omega⟩, ⟨(x 0).val / 16384, by omega⟩), ?_⟩
  rw [base_at2]; dsimp only; omega
omit [FloatOps F] in
theorem oTile_cover : (Finset.univ : Finset (Fin 2 × Fin 16)).biUnion (fun p => oTile (at2 p)) = Finset.univ := by
  ext x
  simp only [oTile, Finset.mem_biUnion, Finset.mem_filter, Finset.mem_univ, true_and, iff_true]
  have hx : (x 0).val < 262144 := (x 0).isLt
  refine ⟨(⟨(x 0).val / 8192 % 2, by omega⟩, ⟨(x 0).val / 16384, by omega⟩), ?_⟩
  rw [base_at2]; dsimp only; omega

/-- The pairs counted as the table's 32 shares. -/
def pairs : Fin 2 × Fin 16 ≃ Fin 32 := (Equiv.prodComm _ _).trans finProdFinEquiv
omit [FloatOps F] in
theorem pairs_val (p : Fin 2 × Fin 16) : (pairs p).val = 2 * p.2.val + p.1.val := by
  show p.1.val + 2 * p.2.val = _; omega

/-- A subcore's pieces: its indices, its share of the table, its rows of the output. -/
abbrev piece {d : Dev nD} (kv : Buf (Elt F) (kLoc d)) (ix : Buf (Elt F) (iLoc d)) (o : Buf (Elt F) (oLoc d)) (i : grid0.Coords) : sProp 𝕄 :=
  iprop((iLoc d ↦[iTile i]{fullShare} ix) ∗ (kLoc d ↦{kq i} kv) ∗ (oLoc d ↦[oTile i]{fullShare} o))

omit [FloatOps F] in
/-- The three whole arrays are the subcores' pieces. -/
theorem whole_pieces {d : Dev nD} (kv : Buf (Elt F) (kLoc d)) (ix : Buf (Elt F) (iLoc d)) (o : Buf (Elt F) (oLoc d)) :
    (iprop((iLoc d ↦{fullShare} ix) ∗ (kLoc d ↦{fullShare} kv) ∗ (oLoc d ↦{fullShare} o)) : sProp 𝕄)
      = bigSep Finset.univ fun c : Fin 2 => bigSep Finset.univ fun s : Fin 16 => piece kv ix o (sub2 c s) := by
  have hi : (iLoc d ↦{fullShare} ix : sProp 𝕄) = bigSep Finset.univ fun p : Fin 2 × Fin 16 => iLoc d ↦[iTile (at2 p)]{fullShare} ix := by
    rw [← pointsTo_biUnion Finset.univ (ℓ := iLoc d) (fun p => iTile (at2 p)) iTile_disj, iTile_cover]
  have ho : (oLoc d ↦{fullShare} o : sProp 𝕄) = bigSep Finset.univ fun p : Fin 2 × Fin 16 => oLoc d ↦[oTile (at2 p)]{fullShare} o := by
    rw [← pointsTo_biUnion Finset.univ (ℓ := oLoc d) (fun p => oTile (at2 p)) oTile_disj, oTile_cover]
  have hk : (kLoc d ↦{fullShare} kv : sProp 𝕄) = bigSep Finset.univ fun p : Fin 2 × Fin 16 => kLoc d ↦{kq (at2 p)} kv := by
    rw [pointsTo_piecesOf Finset.univ kv (o := 32) (by decide) fullShare, bigSep_univ_equiv pairs]
    refine bigSep_congr fun p _ => ?_
    rw [show pairs p = (⟨2 * (at2 p 1).val + (at2 p 0).val, by rw [← show (pairs p).val = 2 * (at2 p 1).val + (at2 p 0).val from pairs_val p]; exact (pairs p).isLt⟩ : Fin 32)
      from Fin.ext (pairs_val p)]
    rfl
  rw [hi, ho, hk, ← bigSep_sep', ← bigSep_sep', bigSep_univ_prod]

variable (m : (ℓ : Loc nD τ sig) → Buf (Elt F) ℓ)

/-- The buffers of device `d` at the launch, -/
def V0 (d : Dev nD) : Valuation τ sig (Elt F) := fun r => m (d, r)
/-- as the SparseCore call takes them, -/
def V1 (d : Dev nD) : Valuation τ sig (Elt F) := StableHlo.after opsA (V0 m d)
abbrev kvA (d : Dev nD) : Buf (Elt F) (kLoc d) := V1 m d main_v1
abbrev ixA (d : Dev nD) : Buf (Elt F) (iLoc d) := V1 m d main_v2
abbrev oA (d : Dev nD) : Buf (Elt F) (oLoc d) := V1 m d main_v3
/-- and as it leaves them: its output at the gathered rows. -/
def V2 (d : Dev nD) : Valuation τ sig (Elt F) := Function.update (V1 m d) (main_v3 : DevRef τ sig) (gath (kvA m d) (ixA m d))

/-- The call takes the index list, the table and the output, and brings them back with the rows gathered. -/
def P : (K (F := F)).Pay (nD := nD) (Val := Elt F) (Name := ℕ) (U := UU) where
  st := fun q d c => match q with | 0 => bigSep Finset.univ fun s : Fin 16 => piece (kvA m d) (ixA m d) (oA m d) (sub2 (Fin.cast nCore_zero c) s)
  dn := fun q d c => match q with | 0 => bigSep Finset.univ fun s : Fin 16 => piece (kvA m d) (ixA m d) (gath (kvA m d) (ixA m d)) (sub2 (Fin.cast nCore_zero c) s)
  go := fun q d c i => match q with | 0 => piece (kvA m d) (ixA m d) (oA m d) (sub2 (Fin.cast nCore_zero c) (Fin.cast nSub_zero i))
  td := fun q d c i => match q with | 0 => piece (kvA m d) (ixA m d) (gath (kvA m d) (ixA m d)) (sub2 (Fin.cast nCore_zero c) (Fin.cast nSub_zero i))
  x := fun _ _ => iprop(emp)

instance P_storable : (P (F := F) m).IsStorable where
  st q d c := match q with
    | 0 => (inferInstance : BI.Storable (upEmb : UEmb _ 𝕄)
      (bigSep Finset.univ fun s : Fin 16 => piece (kvA m d) (ixA m d) (oA m d) (sub2 (Fin.cast nCore_zero c) s)))
  dn q d c := match q with
    | 0 => (inferInstance : BI.Storable (upEmb : UEmb _ 𝕄)
      (bigSep Finset.univ fun s : Fin 16 => piece (kvA m d) (ixA m d) (gath (kvA m d) (ixA m d)) (sub2 (Fin.cast nCore_zero c) s)))
  go q d c i := match q with
    | 0 => (inferInstance : BI.Storable (upEmb : UEmb _ 𝕄) (piece (kvA m d) (ixA m d) (oA m d) (sub2 (Fin.cast nCore_zero c) (Fin.cast nSub_zero i))))
  td q d c i := match q with
    | 0 => (inferInstance : BI.Storable (upEmb : UEmb _ 𝕄)
      (piece (kvA m d) (ixA m d) (gath (kvA m d) (ixA m d)) (sub2 (Fin.cast nCore_zero c) (Fin.cast nSub_zero i))))

omit [FloatOps F] in
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The start signals carry the three arrays, -/
theorem st_eq (d : Dev nD) : (bigSep Finset.univ fun c : Fin ((K (F := F)).nCore 0) => (P m).st 0 d c)
    = iprop((iLoc d ↦{fullShare} ixA m d) ∗ (kLoc d ↦{fullShare} kvA m d) ∗ (oLoc d ↦{fullShare} oA m d)) := by
  rw [whole_pieces]
  exact bigSep_cores (F := F) fun c => bigSep Finset.univ fun s : Fin 16 => piece (kvA m d) (ixA m d) (oA m d) (sub2 c s)
/-- the completions bring them back. -/
theorem dn_eq (d : Dev nD) : (bigSep Finset.univ fun c : Fin ((K (F := F)).nCore 0) => (P m).dn 0 d c)
    = iprop((iLoc d ↦{fullShare} ixA m d) ∗ (kLoc d ↦{fullShare} kvA m d) ∗ (oLoc d ↦{fullShare} gath (kvA m d) (ixA m d))) := by
  rw [whole_pieces]
  exact bigSep_cores (F := F) fun c => bigSep Finset.univ fun s : Fin 16 => piece (kvA m d) (ixA m d) (gath (kvA m d) (ixA m d)) (sub2 c s)

/-- A sequencer hands its subcores their pieces and takes them back. -/
theorem vecSplit : (K (F := F)).VecSplit' (P m) 0 := by
  intro d c
  show (bigSep Finset.univ fun s : Fin 16 => piece (kvA m d) (ixA m d) (oA m d) (sub2 (Fin.cast nCore_zero c) s)) ⊢ |={Set.univ}=> iprop(
      (bigSep Finset.univ fun i : Fin ((K (F := F)).nSub 0) => piece (kvA m d) (ixA m d) (oA m d) (sub2 (Fin.cast nCore_zero c) (Fin.cast nSub_zero i)))
      ∗ ((bigSep Finset.univ fun i : Fin ((K (F := F)).nSub 0) => piece (kvA m d) (ixA m d) (gath (kvA m d) (ixA m d)) (sub2 (Fin.cast nCore_zero c) (Fin.cast nSub_zero i)))
          -∗ bigSep Finset.univ fun s : Fin 16 => piece (kvA m d) (ixA m d) (gath (kvA m d) (ixA m d)) (sub2 (Fin.cast nCore_zero c) s)))
  rw [bigSep_subs (F := F) (fun s => piece (kvA m d) (ixA m d) (oA m d) (sub2 (Fin.cast nCore_zero c) s)),
    bigSep_subs (F := F) (fun s => piece (kvA m d) (ixA m d) (gath (kvA m d) (ixA m d)) (sub2 (Fin.cast nCore_zero c) s))]
  iintro H; imodintro
  isplitl [H]; · iexact H
  iintro H; iexact H

theorem defs₀_vector (c : Fin τ.nSC) (s : Fin τ.nSub) :
    defs₀ (F := F) (.scVector c s) 0 ()
      = SparseCore.onTile hcore0 hsub0 (fun c s => cc0__sc_gather_body (F := F) (coordsV c s) iV (Memref.isWhole_whole _) kV (Memref.isWhole_whole _) oV (Memref.isWhole_whole _)
            rawV (Memref.isWhole_whole _) adjV (Memref.isWhole_whole _) bufA (Memref.isWhole_whole _) bufB (Memref.isWhole_whole _)
            cc0_scratch4 cc0_scratch5 cc0_scratch6 cc0_scratch7 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Each subcore's task, as the launch asks for it. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := (tile_body d (coordsV ⟨_, hci.1⟩ ⟨_, hci.2⟩) hF (kvA m d) (ixA m d) (oA m d) O W hO).trans (wp_mono frame _ _ fun _ => obl_post (q := 0))
  revert h
  generalize cc0__sc_gather_body (F := F) _ _ _ _ _ _ _ _ _ _ _ _ _ _ _ _ _ _ _ _ = prog
  intro h
  exact h

end Cert.KernelIdeal.Hash

end
-- ==== Proof.KernelIdeal.Launch.lean ====
/-
  The whole program's run: @main enters with the launch contents, the SparseCore call gathers the rows, the four
  attention calls and the last host lines follow, and every unscoped buffer ends at a known valuation.
-/
module

public import proofs.«01_k».proof.Proof.KernelIdeal.Pay

@[expose] public section

set_option maxRecDepth 16384

noncomputable section

namespace Cert.KernelIdeal.Hash

open Cert.KernelIdeal Cert.KernelIdeal.Gen
open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay)
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element of the ghost state -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main is dealt for its four pipelines. -/
abbrev G (d : Dev nD) : sProp 𝕄 := Pipeline.ghostOn (pcfgs (F := F)) (adm (F := F)) EP Finset.univ d

omit [FloatOps F] in
theorem fund_G : (BI.own (EP (F := F) (initOf (Pipeline.cells (nD := nD) (τ := τ) cfgs cellOf_inj) (Pipeline.launchToks (nD := nD) (τ := τ) cfgs cellOf_inj))) : sProp 𝕄)
    ⊢ iprop(|==> bigSep Finset.univ fun d : Dev nD => G (F := F) d) := by
  refine (Pipeline.fund_ghost (nD := nD) (τ := τ) cfgs EP cellOf_inj).trans (bupd_mono ?_)
  rw [← bigSep_sep']
  refine bigSep_mono fun d _ => ?_
  rw [← bigSep_sep']
  exact BI.Entails.refl _

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H := (own_pair_emb (embR : Emb (UP × Counters) 𝕄) _ _) $$ HR
  icases H with ⟨HP, -⟩
  imod (fund_G (F := F)) $$ HP with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

/-- @main is its first host lines, the SparseCore call, and the rest. -/
theorem main_eq (d : Dev nD) : main (F := F) d
    = (StableHlo.seq opsA >>= fun _ => ((K (F := F)).run d 0 >>= fun _ => SparseCore.liftProg (Q := 1) (rest (F := F)))) := by sl_kernel_rfl

/-- The arrays the SparseCore call takes. -/
def arr3 : Finset (DevRef τ sig) := {(main_v2 : DevRef τ sig), (main_v1 : DevRef τ sig), (main_v3 : DevRef τ sig)}
omit [FloatOps F] in
theorem arr3_sub : arr3 ⊆ Pipeline.ucRefs τ sig := by decide +kernel

omit [FloatOps F] in
theorem held_arr3 (d : Dev nD) (Vl : Valuation τ sig (Elt F)) : (StableHlo.held (d.tc : Thread nD τ) arr3 Vl : sProp 𝕄)
    = iprop((iLoc d ↦{fullShare} (Vl main_v2 : Buf (Elt F) (iLoc d))) ∗ (kLoc d ↦{fullShare} (Vl main_v1 : Buf (Elt F) (kLoc d))) ∗ (oLoc d ↦{fullShare} (Vl main_v3 : Buf (Elt F) (oLoc d)))) := by
  unfold StableHlo.held arr3
  rw [SparseCore.bigSep_insert' (by decide +kernel), SparseCore.bigSep_insert' (by decide +kernel), bigSep_singleton]

theorem V2_v3 (d : Dev nD) : V2 m d main_v3 = gath (kvA m d) (ixA m d) := Function.update_self ..
theorem V2_of_ne (d : Dev nD) {b : DevRef τ sig} (h : b ≠ (main_v3 : DevRef τ sig)) : V2 m d b = V1 m d b := Function.update_of_ne h ..

/-- Everything @main holds before the SparseCore call is what the call takes and the rest; -/
theorem held_V1 (d : Dev nD) : (StableHlo.held (d.tc : Thread nD τ) (Pipeline.ucRefs τ sig) (V1 m d) : sProp 𝕄)
    = iprop(((iLoc d ↦{fullShare} ixA m d) ∗ (kLoc d ↦{fullShare} kvA m d) ∗ (oLoc d ↦{fullShare} oA m d))
        ∗ StableHlo.held (d.tc : Thread nD τ) (Pipeline.ucRefs τ sig \ arr3) (V1 m d)) := by
  rw [StableHlo.held_sub_split _ arr3_sub, held_arr3]
/-- what it brings back and that rest are everything after it. -/
theorem held_V2 (d : Dev nD) : (StableHlo.held (d.tc : Thread nD τ) (Pipeline.ucRefs τ sig) (V2 m d) : sProp 𝕄)
    = iprop(((iLoc d ↦{fullShare} ixA m d) ∗ (kLoc d ↦{fullShare} kvA m d) ∗ (oLoc d ↦{fullShare} gath (kvA m d) (ixA m d)))
        ∗ StableHlo.held (d.tc : Thread nD τ) (Pipeline.ucRefs τ sig \ arr3) (V1 m d)) := by
  rw [StableHlo.held_sub_split _ arr3_sub, held_arr3, V2_v3, V2_of_ne m d (b := main_v2) (by decide +kernel), V2_of_ne m d (b := main_v1) (by decide +kernel)]
  rw [StableHlo.held_congr (d.tc : Thread nD τ) (S := Pipeline.ucRefs τ sig \ arr3) (V := V2 m d) (V' := V1 m d) fun b hb => V2_of_ne m d fun e => ?_]
  rw [e, Finset.mem_sdiff] at hb
  exact hb.2 (by decide +kernel)

/-- What the handshakes leave with @main after the call, without what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some ((SparseCore.Cfg.Blocks.last (N := 1)) q)) 1)))

omit [FloatOps F] in
theorem tcSt_open (d : Dev nD) : ((K (F := F)).tcSt EH d 1 : sProp 𝕄) ⊢ iprop((∃ Wd, owes (d : Thread nD τ) (0 : CellTallies nD τ sig (HIx 1)) Wd) ∗ tcRest d) := by
  unfold SparseCore.Cfg.tcSt
  rw [(K (F := F)).Otc_end d (le_refl 1)]
  iintro ⟨⟨%Wd, -, HO⟩, Hr⟩
  isplitl [HO]
  · iexists Wd; iexact HO
  · unfold tcRest; iexact Hr
omit [FloatOps F] in
theorem tcSt_close (d : Dev nD) : (iprop((∃ Wd, owes (d : Thread nD τ) (0 : CellTallies nD τ sig (HIx 1)) Wd) ∗ tcRest (F := F) d) : sProp 𝕄) ⊢ (K (F := F)).tcSt EH d 1 := by
  unfold SparseCore.Cfg.tcSt
  rw [(K (F := F)).Otc_end d (le_refl 1)]
  iintro ⟨⟨%Wd, HO⟩, Hr⟩
  isplitl [HO]
  · iexists Wd
    isplitr
    · ipureintro
      intro p _
      rcases p with ⟨s, _ | q⟩
      · exact Nat.zero_le _
      · refine ((K (F := F)).lev_some_le _ q).trans ?_
        have : q.val = 0 := by have := q.isLt; omega
        rw [this]; decide
    · iexact HO
  · unfold tcRest; iexact Hr

/-- What @main ends with: every unscoped buffer at its final contents. -/
abbrev FIN (d : Dev nD) : sProp 𝕄 := StableHlo.held (d.tc : Thread nD τ) (Pipeline.ucRefs τ sig) (wF (V2 m) d)

set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hbufs, Hts, Hp⟩, HG⟩
  ihave Hh := (show (unscopedBufs d (fun b => m ((SparseCore.T d).loc b)) : sProp 𝕄) ⊢ StableHlo.held (d.tc : Thread nD τ) (Pipeline.ucRefs τ sig) (V0 m d)
    from Entails.of_eq (Pipeline.unscopedBufs_held d (V0 m d))) $$ Hbufs
  iapply (StableHlo.wp_seq 𝒱 none Set.univ d (Pipeline.ucRefs τ sig) _ opsA opsA_sub opsA_fresh (V0 m d)) $$ [Hb Hh]
  · isplitl [Hb]
    · iexact Hb
    · iexact Hh
  iintro ⟨Hb, Hh⟩
  ihave Hh := (Entails.of_eq (show (StableHlo.held (d.tc : Thread nD τ) (Pipeline.ucRefs τ sig) (StableHlo.after opsA (V0 m d)) : sProp 𝕄) = _ from held_V1 m d)) $$ Hh
  icases Hh with ⟨H3, Hh⟩
  rw [wp_bind]
  iapply ((K (F := F)).wp_run (D (F := F)) 𝒱 (EH := EH) (P := P m) κ d 0)
  isplitr; · iexact Hctx
  isplitl [Hst]; · iexact Hst
  isplitl [H3]
  · rw [st_eq]; iexact H3
  iintro ⟨Hst, Hdn⟩
  ihave H3 := (Entails.of_eq (dn_eq m d)) $$ Hdn
  ihave Hst := (show ((K (F := F)).tcSt EH d ((0 : Fin 1).val + 1) : sProp 𝕄) ⊢ _ from tcSt_open d) $$ Hst
  icases Hst with ⟨HO, Hr⟩
  ihave Hl := ((K (F := F)).ctx_levAts κ) $$ Hctx
  iapply ((K (F := F)).wp_liftProg (D (F := F)) 𝒱 (SparseCore.T d) Set.univ none (rest (F := F)) _)
  iapply (rest_wp (V2 m) d _)
  isplitl [Hr Hts]
  · iintro ⟨Hb, Hh, HO, -⟩
    isplitl [HO Hr]
    · iapply (tcSt_close d)
      isplitl [HO]
      · iexact HO
      · iexact Hr
    isplitl [Hh]; · iexact Hh
    isplitl [Hb]
    · iexact Hb
    · iexact Hts
  isplitl [Hb]; · iexact Hb
  isplitl [H3 Hh HO Hp]
  · isplitl [H3 Hh]
    · rw [held_V2 m d]
      isplitl [H3]
      · iexact H3
      · iexact Hh
    isplitl [HO]; · iexact HO
    isplitl [Hp]
    · iexists (ρ d); iexact Hp
    · iempintro
  isplitl [Hl]
  · iexact Hl
  · iexact HG

/-! ## The final memory -/

/-- Every unscoped buffer of device `d` ends at its final contents. -/
def fq (d : Dev nD) (s' : Phys nD τ sig (Elt F)) : Prop := ∀ b, b ∈ Pipeline.ucRefs τ sig → s'.mem.mem (d, b) = wF (V2 m) d b

theorem hfin (d : Dev nD) (s' : Phys nD τ sig (Elt F)) : iprop(FIN m d ∗ SI s') ⊢ (⌜fq m d s'⌝ : sProp 𝕄) := by
  refine Entails.trans (forall_intro fun b => ?_) pure_forall.2
  refine Entails.trans (forall_intro fun hb => ?_) pure_forall.2
  unfold FIN StableHlo.held
  refine (sep_mono_left (bigSep_elim hb)).trans ?_
  iintro ⟨Hb, HSI⟩
  ihave H := (SI_pointsTo_agree (st := s') (ℓ := (d, b)) (I := Finset.univ) (q := fullShare) (f := wF (V2 m) d b)) $$ [HSI Hb]
  · isplitl [HSI]
    · iexact HSI
    · iexact Hb
  icases H with %h
  ipureintro; exact funext fun i => h i (Finset.mem_univ i)

/-- What a run ends with: every unscoped buffer at its final contents, every semaphore at zero. -/
def QC : PUnit × MemSt nD τ sig (Elt F) → Prop := fun r => (∀ d : Dev nD, ∀ b, b ∈ Pipeline.ucRefs τ sig → r.2.mem (d, b) = wF (V2 m) d b) ∧ r.2.sem = fun _ => 0

/-- The whole program's run. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.KernelIdeal.Hash

end
-- ==== Proof.KernelIdeal.Frame.lean ====
/-
  The program's arguments through its run: no host line writes them and no attention call's output is one of them.
-/
module

public import proofs.«01_k».proof.Proof.KernelIdeal.Launch

@[expose] public section

set_option maxRecDepth 16384

noncomputable section

namespace Cert.KernelIdeal.Hash

open Cert.KernelIdeal Cert.KernelIdeal.Gen
open Idealize.ShloMosaic Idealize.ShloMosaic.TcCoe Idealize.ShloMosaic.Tactic
open Idealize.SL.Sem

variable {F : FTy → Type} [FloatOps F]

theorem opsA_keep (Vl : Valuation τ sig (Elt F)) (r : Ref sig .tc) (h : r ∉ [main_v0, main_v1, main_v2]) :
    StableHlo.after opsA Vl (Proc.devRef .tc r) = Vl (Proc.devRef .tc r) :=
  StableHlo.after_of_writes_sub opsA Vl (StableHlo.forall_writes_sub_of_map rfl) h
theorem opsB_keep (Vl : Valuation τ sig (Elt F)) (r : Ref sig .tc) (h : r ∉ [main_v8, main_v9, main_v10, main_v11, main_v12]) :
    StableHlo.after opsB Vl (Proc.devRef .tc r) = Vl (Proc.devRef .tc r) :=
  StableHlo.after_of_writes_sub opsB Vl (StableHlo.forall_writes_sub_of_map rfl) h

/-- A buffer that is no attention call's output comes through the calls as it was. -/
theorem calls_keep (W : Dev nD → Valuation τ sig (Elt F)) (c : Dev nD) (r : Ref sig .tc)
    (h : r ∉ [main_v4, main_v5, main_v6, main_v7]) : wE W c (Proc.devRef .tc r) = W c (Proc.devRef .tc r) := by
  simp only [List.mem_cons, List.not_mem_nil, or_false, not_or] at h
  unfold wE wD wC wB
  rw [Pipeline.afterRegion_keeps _ _ winFacts4.arr_inj (fun w => A4_eq _ c w) r, Pipeline.afterRegion_keeps _ _ winFacts3.arr_inj (fun w => A3_eq _ c w) r,
    Pipeline.afterRegion_keeps _ _ winFacts2.arr_inj (fun w => A2_eq _ c w) r, Pipeline.afterRegion_keeps _ _ winFacts1.arr_inj (fun w => A1_eq _ c w) r]
  · intro w hw
    match w with
    | ⟨0, _⟩ => rfl
    | ⟨1, _⟩ => rfl
    | ⟨2, _⟩ => exact absurd hw.symm h.1
  · intro w hw
    match w with
    | ⟨0, _⟩ => rfl
    | ⟨1, _⟩ => rfl
    | ⟨2, _⟩ => exact absurd hw.symm h.2.1
  · intro w hw
    match w with
    | ⟨0, _⟩ => rfl
    | ⟨1, _⟩ => rfl
    | ⟨2, _⟩ => exact absurd hw.symm h.2.2.1
  · intro w hw
    match w with
    | ⟨0, _⟩ => rfl
    | ⟨1, _⟩ => rfl
    | ⟨2, _⟩ => exact absurd hw.symm h.2.2.2

variable (m : (ℓ : Loc nD τ sig) → Buf (Elt F) ℓ) (ρ : Dev nD → PrngReg)

/-- A buffer nothing writes ends as it was. -/
theorem kept (d : Dev nD) (r : Ref sig .tc)
    (h : r ∉ [main_v0, main_v1, main_v2, main_v3, main_v4, main_v5, main_v6, main_v7, main_v8, main_v9, main_v10, main_v11, main_v12]) :
    wF (V2 m) d (Proc.devRef .tc r) = m ((d.tc : Thread nD τ).loc r) := by
  have hA : r ∉ [main_v0, main_v1, main_v2] := fun e => h (by simp only [List.mem_cons, List.not_mem_nil, or_false] at e ⊢; tauto)
  have hC : r ∉ [main_v4, main_v5, main_v6, main_v7] := fun e => h (by simp only [List.mem_cons, List.not_mem_nil, or_false] at e ⊢; tauto)
  have hB : r ∉ [main_v8, main_v9, main_v10, main_v11, main_v12] := fun e => h (by simp only [List.mem_cons, List.not_mem_nil, or_false] at e ⊢; tauto)
  have h3 : r ≠ main_v3 := fun e => h (by simp only [List.mem_cons, List.not_mem_nil, or_false]; tauto)
  unfold wF
  rw [opsB_keep _ r hB, calls_keep _ d r hC, V2_of_ne m d (fun e => h3 (Proc.devRef_injective _ e))]
  exact opsA_keep _ r hA

/-- What a run leaves: the arguments as they were, the result at its final contents, every semaphore at zero. -/
theorem run_args [∀ e, Nonempty (Elt F e)] :
    θ_run (Cert.KernelIdeal.defs (F := F)) (Cert.KernelIdeal.threads (F := F)) ⟨m, fun _ => 0, ρ⟩ fun r =>
      (∀ c : Dev nD, r.2.mem ((c.tc : Thread nD τ).loc main_v12) = wF (V2 m) c main_v12
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0 :=
  (θ_run (Cert.KernelIdeal.defs (F := F)) _ _).mono (fun r h => ⟨fun c =>
    ⟨h.1 c main_v12 (by decide +kernel), (h.1 c main_arg0 (by decide +kernel)).trans (kept m c main_arg0 (by decide)), (h.1 c main_arg1 (by decide +kernel)).trans (kept m c main_arg1 (by decide)),
      (h.1 c main_arg2 (by decide +kernel)).trans (kept m c main_arg2 (by decide)), (h.1 c main_arg3 (by decide +kernel)).trans (kept m c main_arg3 (by decide))⟩, h.2⟩)
    (run_main m ρ)

end Cert.KernelIdeal.Hash

end
-- ==== Proof.KernelIdeal.Blocks.lean ====
module

public import proofs.«01_k».proof.Proof.KernelIdeal.TcMath
public import proofs.«01_k».proof.Proof.KernelIdeal.Frame
public import Idealize.ShloMosaic.Lib.Pipeline.ValueKit.Geometry

/-! # The blocks the attention calls read and the array each leaves -/

set_option maxRecDepth 16384

@[expose] public section

noncomputable section

namespace Cert.KernelIdeal.Hash

open Cert.KernelIdeal Cert.KernelIdeal.Gen
open Idealize.ShloMosaic Idealize.ShloMosaic.TcCoe
open Idealize.ShloMosaic.Pipeline (Dat Cfg Window)

variable (V : Valuation τ sig (Elt Ideal))

/-- The queries of a valuation. -/
abbrev vQ : S4x2048x64.Idx → EReal := V (Proc.devRef .tc main_arg0)
/-- The gathered rows of a valuation. -/
abbrev vR : S262144x128.Idx → EReal := V (Proc.devRef .tc main_v3)

/-- Call 1's query block at a point is batch `t % 4`. -/
theorem q1_apply (t : Fin 8) (i : Fin 2048) (d : Fin 64) :
    q1 (F := Ideal) V t (ix3 (0 : Fin 1) i d) = vQ V (ix3 (⟨t.val % 4, Nat.mod_lt _ (by decide)⟩ : Fin 4) i d) := by
  unfold q1
  rw [View.read_apply, cast_eq]
  refine congrArg (vQ V) ?_
  have e : ∀ t : Fin grid1.N, win1_0.index t = ![t.val % 4, 0, 0] := by decide +kernel
  blk_ext [e t]

/-- Call 1's block of gathered rows at a point. -/
theorem r1_apply (t : Fin 8) (y : Fin 8192) (z : Fin 128) :
    r1 (F := Ideal) V t (ix2 y z) = vR V (ix2 (⟨0 * 65536 + t.val * 8192 + y.val, by omega⟩ : Fin 262144) z) := by
  unfold r1
  rw [View.read_apply, cast_eq]
  refine congrArg (vR V) ?_
  have e : ∀ t : Fin grid1.N, win1_1.index t = ![0 * 8 + t.val, 0] := by decide +kernel
  blk_ext [e t]

/-- What call 1 leaves of its output. -/
theorem left_by1 (c : Dev nD) : ((dat1 V c).arrAt 2 cfg1.N : S2048x64.Idx → EReal) = outAt (q1 V) (r1 V) 7 (by decide) := by
  refine (dat1 V c).arrAt_eq_of_after_last 2 (⟨7, by decide⟩ : Fin grid1.N) (show win1_2.WholeAt (⟨7, by decide⟩ : Fin grid1.N) by decide +kernel) _ fun j => ?_
  rw [after1_2]
  rfl

/-- Call 2's query block at a point is batch `t % 4`. -/
theorem q2_apply (t : Fin 8) (i : Fin 2048) (d : Fin 64) :
    q2 (F := Ideal) V t (ix3 (0 : Fin 1) i d) = vQ V (ix3 (⟨t.val % 4, Nat.mod_lt _ (by decide)⟩ : Fin 4) i d) := by
  unfold q2
  rw [View.read_apply, cast_eq]
  refine congrArg (vQ V) ?_
  have e : ∀ t : Fin grid2.N, win2_0.index t = ![t.val % 4, 0, 0] := by decide +kernel
  blk_ext [e t]

/-- Call 2's block of gathered rows at a point. -/
theorem r2_apply (t : Fin 8) (y : Fin 8192) (z : Fin 128) :
    r2 (F := Ideal) V t (ix2 y z) = vR V (ix2 (⟨1 * 65536 + t.val * 8192 + y.val, by omega⟩ : Fin 262144) z) := by
  unfold r2
  rw [View.read_apply, cast_eq]
  refine congrArg (vR V) ?_
  have e : ∀ t : Fin grid2.N, win2_1.index t = ![1 * 8 + t.val, 0] := by decide +kernel
  blk_ext [e t]

/-- What call 2 leaves of its output. -/
theorem left_by2 (c : Dev nD) : ((dat2 V c).arrAt 2 cfg2.N : S2048x64.Idx → EReal) = outAt (q2 V) (r2 V) 7 (by decide) := by
  refine (dat2 V c).arrAt_eq_of_after_last 2 (⟨7, by decide⟩ : Fin grid2.N) (show win2_2.WholeAt (⟨7, by decide⟩ : Fin grid2.N) by decide +kernel) _ fun j => ?_
  rw [after2_2]
  rfl

/-- Call 3's query block at a point is batch `t % 4`. -/
theorem q3_apply (t : Fin 8) (i : Fin 2048) (d : Fin 64) :
    q3 (F := Ideal) V t (ix3 (0 : Fin 1) i d) = vQ V (ix3 (⟨t.val % 4, Nat.mod_lt _ (by decide)⟩ : Fin 4) i d) := by
  unfold q3
  rw [View.read_apply, cast_eq]
  refine congrArg (vQ V) ?_
  have e : ∀ t : Fin grid3.N, win3_0.index t = ![t.val % 4, 0, 0] := by decide +kernel
  blk_ext [e t]

/-- Call 3's block of gathered rows at a point. -/
theorem r3_apply (t : Fin 8) (y : Fin 8192) (z : Fin 128) :
    r3 (F := Ideal) V t (ix2 y z) = vR V (ix2 (⟨2 * 65536 + t.val * 8192 + y.val, by omega⟩ : Fin 262144) z) := by
  unfold r3
  rw [View.read_apply, cast_eq]
  refine congrArg (vR V) ?_
  have e : ∀ t : Fin grid3.N, win3_1.index t = ![2 * 8 + t.val, 0] := by decide +kernel
  blk_ext [e t]

/-- What call 3 leaves of its output. -/
theorem left_by3 (c : Dev nD) : ((dat3 V c).arrAt 2 cfg3.N : S2048x64.Idx → EReal) = outAt (q3 V) (r3 V) 7 (by decide) := by
  refine (dat3 V c).arrAt_eq_of_after_last 2 (⟨7, by decide⟩ : Fin grid3.N) (show win3_2.WholeAt (⟨7, by decide⟩ : Fin grid3.N) by decide +kernel) _ fun j => ?_
  rw [after3_2]
  rfl

/-- Call 4's query block at a point is batch `t % 4`. -/
theorem q4_apply (t : Fin 8) (i : Fin 2048) (d : Fin 64) :
    q4 (F := Ideal) V t (ix3 (0 : Fin 1) i d) = vQ V (ix3 (⟨t.val % 4, Nat.mod_lt _ (by decide)⟩ : Fin 4) i d) := by
  unfold q4
  rw [View.read_apply, cast_eq]
  refine congrArg (vQ V) ?_
  have e : ∀ t : Fin grid4.N, win4_0.index t = ![t.val % 4, 0, 0] := by decide +kernel
  blk_ext [e t]

/-- Call 4's block of gathered rows at a point. -/
theorem r4_apply (t : Fin 8) (y : Fin 8192) (z : Fin 128) :
    r4 (F := Ideal) V t (ix2 y z) = vR V (ix2 (⟨3 * 65536 + t.val * 8192 + y.val, by omega⟩ : Fin 262144) z) := by
  unfold r4
  rw [View.read_apply, cast_eq]
  refine congrArg (vR V) ?_
  have e : ∀ t : Fin grid4.N, win4_1.index t = ![3 * 8 + t.val, 0] := by decide +kernel
  blk_ext [e t]

/-- What call 4 leaves of its output. -/
theorem left_by4 (c : Dev nD) : ((dat4 V c).arrAt 2 cfg4.N : S2048x64.Idx → EReal) = outAt (q4 V) (r4 V) 7 (by decide) := by
  refine (dat4 V c).arrAt_eq_of_after_last 2 (⟨7, by decide⟩ : Fin grid4.N) (show win4_2.WholeAt (⟨7, by decide⟩ : Fin grid4.N) by decide +kernel) _ fun j => ?_
  rw [after4_2]
  rfl

end Cert.KernelIdeal.Hash
-- ==== Proof.Attention.lean ====
module

public import Idealize.ShloMosaic.Lib.Pointwise
public import proofs.«01_k».proof.Proof.Softmax

/-! # The attention both programs compute

For each batch, query and element: the mean, over 8 passes of 64 keys each, of the values at the positions the table names,
weighted by the exponentials of the inner products of the query and the keys there. -/

@[expose] public section

noncomputable section

namespace Cert.Attention

open Idealize.ShloMosaic

/-- The row a position names: the table's entry modulo the number of keys. -/
def posn (T : (⟨2, ![4, 65536]⟩ : Shape).Idx → BitVec 32) (b : Fin 4) (y : Fin 65536) : Fin 8192 :=
  ⟨(T (ix2 b y)).toNat % 8192, Nat.mod_lt _ (by decide)⟩

/-- The place in the table of a query's `j`-th key of a pass. -/
def place (h : ℕ) (i : Fin 2048) (j : Fin 64) : Fin 65536 := ⟨h % 8 * 8192 + i.val / 16 * 64 + j.val, by omega⟩

/-- The inner product of a query and its `j`-th key of a pass; the batch of the query is the pass's remainder by 4. -/
def prod (Q : (⟨3, ![4, 2048, 64]⟩ : Shape).Idx → EReal) (K : (⟨3, ![4, 8192, 64]⟩ : Shape).Idx → EReal)
    (T : (⟨2, ![4, 65536]⟩ : Shape).Idx → BitVec 32) (b : Fin 4) (i : Fin 2048) (h : ℕ) (j : Fin 64) : EReal :=
  ∑ d : Fin 64, Q (ix3 (⟨h % 4, Nat.mod_lt _ (by decide)⟩ : Fin 4) i d) * K (ix3 b (posn T b (place h i j)) d)

/-- The attention's element. -/
def attn (Q : (⟨3, ![4, 2048, 64]⟩ : Shape).Idx → EReal) (K V : (⟨3, ![4, 8192, 64]⟩ : Shape).Idx → EReal)
    (T : (⟨2, ![4, 65536]⟩ : Shape).Idx → BitVec 32) (b : Fin 4) (i : Fin 2048) (e : Fin 64) : EReal :=
  Cert.Softmax.mean (fun h j => (prod Q K T b i h j).toReal) (fun h j => V (ix3 b (posn T b (place h i j)) e))

/-- All entries are reals. -/
def Real {s : Shape} (X : s.Idx → EReal) : Prop := ∀ x, X x ≠ ⊥ ∧ X x ≠ ⊤

/-- Inner products of reals are reals. -/
theorem prod_coe (Q : (⟨3, ![4, 2048, 64]⟩ : Shape).Idx → EReal) (K : (⟨3, ![4, 8192, 64]⟩ : Shape).Idx → EReal)
    (T : (⟨2, ![4, 65536]⟩ : Shape).Idx → BitVec 32) (hQ : Real Q) (hK : Real K) (b : Fin 4) (i : Fin 2048) (h : ℕ) (j : Fin 64) :
    prod Q K T b i h j = (((prod Q K T b i h j).toReal : ℝ) : EReal) := by
  have e : ∃ r : ℝ, prod Q K T b i h j = r := by
    refine ⟨∑ d : Fin 64, (Q (ix3 (⟨h % 4, Nat.mod_lt _ (by decide)⟩ : Fin 4) i d)).toReal *
      (K (ix3 b (posn T b (place h i j)) d)).toReal, ?_⟩
    rw [Cert.Softmax.coe_sum]
    refine Finset.sum_congr rfl fun d _ => ?_
    rw [EReal.coe_mul, EReal.coe_toReal (hQ _).2 (hQ _).1, EReal.coe_toReal (hK _).2 (hK _).1]
  obtain ⟨r, hr⟩ := e
  rw [hr, EReal.toReal_coe]

end Cert.Attention
-- ==== Proof.KernelIdeal.Value.lean ====
module

public import proofs.«01_k».proof.Proof.KernelIdeal.Blocks
public import proofs.«01_k».proof.Proof.Attention

/-! # The kernel's result

Every element of the kernel's result is the attention of its arguments. -/

set_option maxRecDepth 16384

@[expose] public section

noncomputable section

namespace Cert.KernelIdeal.Hash

open Cert.KernelIdeal Cert.KernelIdeal.Gen Cert.Attention
open Idealize.ShloMosaic Idealize.ShloMosaic.TcCoe

/-- Blocks that hold the queries and the rows the table names give the attention. -/
theorem attn_of_blocks (x0 : Fin 8 → Vec Ideal S1x2048x64 .f32) (x1 : Fin 8 → Vec Ideal S8192x128 .f32)
    (Q : S4x2048x64.Idx → EReal) (K V : S4x8192x64.Idx → EReal) (T : S4x65536.Idx → BitVec 32) (hQ : Real Q) (hK : Real K)
    (b : Fin 4) (i : Fin 2048) (e : Fin 64)
    (h0 : ∀ (h : Fin 8) (i : Fin 2048) (d : Fin 64), x0 h (ix3 (0 : Fin 1) i d) = Q (ix3 (⟨h.val % 4, Nat.mod_lt _ (by decide)⟩ : Fin 4) i d))
    (h1 : ∀ (h : Fin 8) (y : Fin 8192) (d : Fin 64), x1 h (ix2 y (⟨d.val, by omega⟩ : Fin 128)) = K (ix3 b (posn T b (⟨h.val * 8192 + y.val, by omega⟩ : Fin 65536)) d))
    (h2 : ∀ (h : Fin 8) (y : Fin 8192) (d : Fin 64), x1 h (ix2 y (⟨64 + d.val, by omega⟩ : Fin 128)) = V (ix3 b (posn T b (⟨h.val * 8192 + y.val, by omega⟩ : Fin 65536)) d)) :
    outAt x0 x1 7 (by decide) (ix2 i e) = attn Q K V T b i e := by
  have hp : ∀ (h : Fin 8) (j : Fin 64), (⟨h.val * 8192 + (kvRow i j).val, by have := (kvRow i j).isLt; omega⟩ : Fin 65536) = place h.val i j := fun h j =>
    Fin.ext (by show h.val * 8192 + (64 * (i.val / 16) + j.val) = h.val % 8 * 8192 + i.val / 16 * 64 + j.val; omega)
  refine outAt_col x0 x1 i e _ _ (fun h j => ?_) (fun h => funext fun j => ?_)
  · refine Eq.trans ?_ (prod_coe Q K T hQ hK b i h.val j)
    refine Finset.sum_congr rfl fun d _ => ?_
    rw [h0, h1, hp, mul_comm]
  · show x1 h (ix2 (kvRow i j) (⟨64 + e.val, _⟩ : Fin 128)) = _
    rw [h2, hp]

variable (m : (ℓ : Loc nD τ sig) → Buf (Elt Ideal) ℓ)

/-- The arguments. -/
abbrev mQ (c : Dev nD) : S4x2048x64.Idx → EReal := m ((c.tc : Thread nD τ).loc main_arg0)
abbrev mK (c : Dev nD) : S4x8192x64.Idx → EReal := m ((c.tc : Thread nD τ).loc main_arg1)
abbrev mV (c : Dev nD) : S4x8192x64.Idx → EReal := m ((c.tc : Thread nD τ).loc main_arg2)
abbrev mT (c : Dev nD) : S4x65536.Idx → BitVec 32 := m ((c.tc : Thread nD τ).loc main_arg3)

/-- The table the SparseCore reads, and its indices. -/
abbrev tbl (c : Dev nD) : S32768x128.Idx → EReal := kvA m c
abbrev idx (c : Dev nD) : S262144.Idx → BitVec 32 := ixA m c

theorem tbl_eq (c : Dev nD) : tbl m c = shapeCast S32768x128 (concatenate S4x8192x128 2 [⟨S4x8192x64, mK m c⟩, ⟨S4x8192x64, mV m c⟩] concatenates_S4x8192x64_S4x8192x64_S4x8192x128_d2) shapeCasts_S4x8192x128_S32768x128 := by
  rfl

theorem idx_eq (c : Dev nD) : idx m c = shapeCast S262144 (mT m c) shapeCasts_S4x65536_S262144 := by
  rfl

/-- A table's row: keys first, values after. -/
theorem tbl_key (c : Dev nD) (b : Fin 4) (n : Fin 8192) (d : Fin 64) :
    tbl m c (ix2 (⟨n.val + b.val * 8192, by omega⟩ : Fin 32768) (⟨d.val, by omega⟩ : Fin 128)) = mK m c (ix3 b n d) := by
  rw [tbl_eq]
  pointwise []

theorem tbl_value (c : Dev nD) (b : Fin 4) (n : Fin 8192) (d : Fin 64) :
    tbl m c (ix2 (⟨n.val + b.val * 8192, by omega⟩ : Fin 32768) (⟨64 + d.val, by omega⟩ : Fin 128)) = mV m c (ix3 b n d) := by
  rw [tbl_eq]
  pointwise []

theorem idx_apply (c : Dev nD) (b : Fin 4) (p : Fin 65536) :
    idx m c (ix1 (⟨b.val * 65536 + p.val, by omega⟩ : Fin 262144)) = mT m c (ix2 b p) := by
  rw [idx_eq]
  pointwise []

/-- A row the SparseCore call gathers: the key at the position the table names, and its value. -/
theorem row_eq (c : Dev nD) (b : Fin 4) (p : Fin 65536) (z : Fin 128) :
    vR (V2 m c) (ix2 (⟨b.val * 65536 + p.val, by omega⟩ : Fin 262144) z) =
      tbl m c (ix2 (⟨(posn (mT m c) b p).val + b.val * 8192, by have := (posn (mT m c) b p).isLt; omega⟩ : Fin 32768) z) := by
  refine (congrFun (V2_v3 m c) _).trans ?_
  refine congrArg (fun r : Fin 32768 => tbl m c (ix2 r z)) (Fin.ext ?_)
  show (idx m c (ix1 (⟨b.val * 65536 + p.val, _⟩ : Fin 262144))).toNat % 8192 + (b.val * 65536 + p.val) / 65536 * 8192 =
    (mT m c (ix2 b p)).toNat % 8192 + b.val * 8192
  rw [idx_apply, show (b.val * 65536 + p.val) / 65536 = b.val by omega]

theorem row_key (c : Dev nD) (b : Fin 4) (p : Fin 65536) (d : Fin 64) :
    vR (V2 m c) (ix2 (⟨b.val * 65536 + p.val, by omega⟩ : Fin 262144) (⟨d.val, by omega⟩ : Fin 128)) = mK m c (ix3 b (posn (mT m c) b p) d) :=
  (row_eq m c b p _).trans (tbl_key m c b _ d)

theorem row_value (c : Dev nD) (b : Fin 4) (p : Fin 65536) (d : Fin 64) :
    vR (V2 m c) (ix2 (⟨b.val * 65536 + p.val, by omega⟩ : Fin 262144) (⟨64 + d.val, by omega⟩ : Fin 128)) = mV m c (ix3 b (posn (mT m c) b p) d) :=
  (row_eq m c b p _).trans (tbl_value m c b _ d)

/-- The queries when the attention calls begin. -/
theorem V2_queries (c : Dev nD) : vQ (V2 m c) = mQ m c :=
  (V2_of_ne m c (by decide)).trans (opsA_keep _ main_arg0 (by decide))

section Keep

variable (W : Dev nD → Valuation τ sig (Elt Ideal)) (c : Dev nD)

/-- Call 1 changes its output alone. -/
theorem wB_keep (r : Ref sig .tc) (h : r ≠ main_v4) : wB W c (Proc.devRef .tc r) = W c (Proc.devRef .tc r) := by
  unfold wB
  rw [Pipeline.afterRegion_keeps _ _ winFacts1.arr_inj (fun w => A1_eq _ c w) r]
  intro w hw
  match w with
  | ⟨0, _⟩ => rfl
  | ⟨1, _⟩ => rfl
  | ⟨2, _⟩ => exact absurd hw.symm h

theorem wB_out : (wB W c (Proc.devRef .tc main_v4) : S2048x64.Idx → EReal) = outAt (q1 (W c)) (r1 (W c)) 7 (by decide) :=
  (Pipeline.afterRegion_arr (dat1 (W c) c) (W c) winFacts1.arr_inj 2).trans (left_by1 (W c) c)

/-- Call 2 changes its output alone. -/
theorem wC_keep (r : Ref sig .tc) (h : r ≠ main_v5) : wC W c (Proc.devRef .tc r) = wB W c (Proc.devRef .tc r) := by
  unfold wC
  rw [Pipeline.afterRegion_keeps _ _ winFacts2.arr_inj (fun w => A2_eq _ c w) r]
  intro w hw
  match w with
  | ⟨0, _⟩ => rfl
  | ⟨1, _⟩ => rfl
  | ⟨2, _⟩ => exact absurd hw.symm h

theorem wC_out : (wC W c (Proc.devRef .tc main_v5) : S2048x64.Idx → EReal) = outAt (q2 (wB W c)) (r2 (wB W c)) 7 (by decide) :=
  (Pipeline.afterRegion_arr (dat2 (wB W c) c) (wB W c) winFacts2.arr_inj 2).trans (left_by2 (wB W c) c)

/-- Call 3 changes its output alone. -/
theorem wD_keep (r : Ref sig .tc) (h : r ≠ main_v6) : wD W c (Proc.devRef .tc r) = wC W c (Proc.devRef .tc r) := by
  unfold wD
  rw [Pipeline.afterRegion_keeps _ _ winFacts3.arr_inj (fun w => A3_eq _ c w) r]
  intro w hw
  match w with
  | ⟨0, _⟩ => rfl
  | ⟨1, _⟩ => rfl
  | ⟨2, _⟩ => exact absurd hw.symm h

theorem wD_out : (wD W c (Proc.devRef .tc main_v6) : S2048x64.Idx → EReal) = outAt (q3 (wC W c)) (r3 (wC W c)) 7 (by decide) :=
  (Pipeline.afterRegion_arr (dat3 (wC W c) c) (wC W c) winFacts3.arr_inj 2).trans (left_by3 (wC W c) c)

/-- Call 4 changes its output alone. -/
theorem wE_keep (r : Ref sig .tc) (h : r ≠ main_v7) : wE W c (Proc.devRef .tc r) = wD W c (Proc.devRef .tc r) := by
  unfold wE
  rw [Pipeline.afterRegion_keeps _ _ winFacts4.arr_inj (fun w => A4_eq _ c w) r]
  intro w hw
  match w with
  | ⟨0, _⟩ => rfl
  | ⟨1, _⟩ => rfl
  | ⟨2, _⟩ => exact absurd hw.symm h

theorem wE_out : (wE W c (Proc.devRef .tc main_v7) : S2048x64.Idx → EReal) = outAt (q4 (wD W c)) (r4 (wD W c)) 7 (by decide) :=
  (Pipeline.afterRegion_arr (dat4 (wD W c) c) (wD W c) winFacts4.arr_inj 2).trans (left_by4 (wD W c) c)

end Keep

variable (c : Dev nD) (hQ : Real (mQ m c)) (hK : Real (mK m c)) (i : Fin 2048) (e : Fin 64)

include hQ hK in
/-- Blocks of the arguments' queries and of a batch's gathered rows give the batch's attention. -/
theorem attn_of_reads (x0 : Fin 8 → Vec Ideal S1x2048x64 .f32) (x1 : Fin 8 → Vec Ideal S8192x128 .f32) (b : Fin 4)
    (h0 : ∀ (h : Fin 8) (i : Fin 2048) (d : Fin 64), x0 h (ix3 (0 : Fin 1) i d) = mQ m c (ix3 (⟨h.val % 4, Nat.mod_lt _ (by decide)⟩ : Fin 4) i d))
    (h1 : ∀ (h : Fin 8) (y : Fin 8192) (z : Fin 128), x1 h (ix2 y z) = vR (V2 m c) (ix2 (⟨b.val * 65536 + h.val * 8192 + y.val, by omega⟩ : Fin 262144) z)) :
    outAt x0 x1 7 (by decide) (ix2 i e) = attn (mQ m c) (mK m c) (mV m c) (mT m c) b i e := by
  refine attn_of_blocks _ _ _ _ _ _ hQ hK b i e h0 (fun h y d => ?_) (fun h y d => ?_)
  · refine (h1 h y _).trans (Eq.trans ?_ (row_key m c b (⟨h.val * 8192 + y.val, by omega⟩ : Fin 65536) d))
    exact congrArg (fun r : Fin 262144 => vR (V2 m c) (ix2 r _)) (Fin.ext (Nat.add_assoc _ _ _))
  · refine (h1 h y _).trans (Eq.trans ?_ (row_value m c b (⟨h.val * 8192 + y.val, by omega⟩ : Fin 65536) d))
    exact congrArg (fun r : Fin 262144 => vR (V2 m c) (ix2 r _)) (Fin.ext (Nat.add_assoc _ _ _))

include hQ hK in
/-- Call 1's output is batch 0's attention. -/
theorem out1_apply : (wE (V2 m) c (Proc.devRef .tc main_v4) : S2048x64.Idx → EReal) (ix2 i e) = attn (mQ m c) (mK m c) (mV m c) (mT m c) 0 i e := by
  have hq : vQ (V2 m c) = mQ m c := V2_queries m c
  have hr : vR (V2 m c) = vR (V2 m c) := rfl
  refine (congrFun ((wE_keep (V2 m) c main_v4 (by decide)).trans ((wD_keep (V2 m) c main_v4 (by decide)).trans ((wC_keep (V2 m) c main_v4 (by decide)).trans (wB_out (V2 m) c)))) (ix2 i e)).trans ?_
  exact attn_of_reads m c hQ hK i e _ _ 0 (fun h i d => by rw [q1_apply, hq]) (fun h y z => by rw [r1_apply, hr]; rfl)

include hQ hK in
/-- Call 2's output is batch 1's attention. -/
theorem out2_apply : (wE (V2 m) c (Proc.devRef .tc main_v5) : S2048x64.Idx → EReal) (ix2 i e) = attn (mQ m c) (mK m c) (mV m c) (mT m c) 1 i e := by
  have hq : vQ (wB (V2 m) c) = mQ m c := (wB_keep (V2 m) c main_arg0 (by decide)).trans (V2_queries m c)
  have hr : vR (wB (V2 m) c) = vR (V2 m c) := (wB_keep (V2 m) c main_v3 (by decide)).trans (rfl)
  refine (congrFun ((wE_keep (V2 m) c main_v5 (by decide)).trans ((wD_keep (V2 m) c main_v5 (by decide)).trans (wC_out (V2 m) c))) (ix2 i e)).trans ?_
  exact attn_of_reads m c hQ hK i e _ _ 1 (fun h i d => by rw [q2_apply, hq]) (fun h y z => by rw [r2_apply, hr]; rfl)

include hQ hK in
/-- Call 3's output is batch 2's attention. -/
theorem out3_apply : (wE (V2 m) c (Proc.devRef .tc main_v6) : S2048x64.Idx → EReal) (ix2 i e) = attn (mQ m c) (mK m c) (mV m c) (mT m c) 2 i e := by
  have hq : vQ (wC (V2 m) c) = mQ m c := (wC_keep (V2 m) c main_arg0 (by decide)).trans ((wB_keep (V2 m) c main_arg0 (by decide)).trans (V2_queries m c))
  have hr : vR (wC (V2 m) c) = vR (V2 m c) := (wC_keep (V2 m) c main_v3 (by decide)).trans ((wB_keep (V2 m) c main_v3 (by decide)).trans (rfl))
  refine (congrFun ((wE_keep (V2 m) c main_v6 (by decide)).trans (wD_out (V2 m) c)) (ix2 i e)).trans ?_
  exact attn_of_reads m c hQ hK i e _ _ 2 (fun h i d => by rw [q3_apply, hq]) (fun h y z => by rw [r3_apply, hr]; rfl)

include hQ hK in
/-- Call 4's output is batch 3's attention. -/
theorem out4_apply : (wE (V2 m) c (Proc.devRef .tc main_v7) : S2048x64.Idx → EReal) (ix2 i e) = attn (mQ m c) (mK m c) (mV m c) (mT m c) 3 i e := by
  have hq : vQ (wD (V2 m) c) = mQ m c := (wD_keep (V2 m) c main_arg0 (by decide)).trans ((wC_keep (V2 m) c main_arg0 (by decide)).trans ((wB_keep (V2 m) c main_arg0 (by decide)).trans (V2_queries m c)))
  have hr : vR (wD (V2 m) c) = vR (V2 m c) := (wD_keep (V2 m) c main_v3 (by decide)).trans ((wC_keep (V2 m) c main_v3 (by decide)).trans ((wB_keep (V2 m) c main_v3 (by decide)).trans (rfl)))
  refine (congrFun (wE_out (V2 m) c) (ix2 i e)).trans ?_
  exact attn_of_reads m c hQ hK i e _ _ 3 (fun h i d => by rw [q4_apply, hq]) (fun h y z => by rw [r4_apply, hr]; rfl)

/-- The host's last lines stack the four outputs. -/
theorem stacked (Vl : Valuation τ sig (Elt Ideal)) : (StableHlo.after opsB Vl (Proc.devRef .tc main_v12) : S4x2048x64.Idx → EReal) =
    concatenate S4x2048x64 0 [⟨S1x2048x64, broadcastInDim S1x2048x64 ![1, 2] bcast_S2048x64_S1x2048x64_1_2 (Vl (Proc.devRef .tc main_v4) : S2048x64.Idx → EReal)⟩,
      ⟨S1x2048x64, broadcastInDim S1x2048x64 ![1, 2] bcast_S2048x64_S1x2048x64_1_2 (Vl (Proc.devRef .tc main_v5) : S2048x64.Idx → EReal)⟩,
      ⟨S1x2048x64, broadcastInDim S1x2048x64 ![1, 2] bcast_S2048x64_S1x2048x64_1_2 (Vl (Proc.devRef .tc main_v6) : S2048x64.Idx → EReal)⟩,
      ⟨S1x2048x64, broadcastInDim S1x2048x64 ![1, 2] bcast_S2048x64_S1x2048x64_1_2 (Vl (Proc.devRef .tc main_v7) : S2048x64.Idx → EReal)⟩]
      concatenates_S1x2048x64_S1x2048x64_S1x2048x64_S1x2048x64_S4x2048x64_d0 := by
  rfl

/-- The stack at an index. -/
theorem stack_apply (A0 A1 A2 A3 : S2048x64.Idx → EReal) (b : Fin 4) (i : Fin 2048) (e : Fin 64) :
    (concatenate S4x2048x64 0 [⟨S1x2048x64, broadcastInDim S1x2048x64 ![1, 2] bcast_S2048x64_S1x2048x64_1_2 A0⟩,
      ⟨S1x2048x64, broadcastInDim S1x2048x64 ![1, 2] bcast_S2048x64_S1x2048x64_1_2 A1⟩,
      ⟨S1x2048x64, broadcastInDim S1x2048x64 ![1, 2] bcast_S2048x64_S1x2048x64_1_2 A2⟩,
      ⟨S1x2048x64, broadcastInDim S1x2048x64 ![1, 2] bcast_S2048x64_S1x2048x64_1_2 A3⟩]
      concatenates_S1x2048x64_S1x2048x64_S1x2048x64_S1x2048x64_S4x2048x64_d0) (ix3 b i e) = (![A0, A1, A2, A3] b) (ix2 i e) := by
  match b with
  | ⟨0, _⟩ => pointwise []
  | ⟨1, _⟩ => pointwise []
  | ⟨2, _⟩ => pointwise []
  | ⟨3, _⟩ => pointwise []

include hQ hK in
/-- The kernel's result. -/
theorem result_apply (b : Fin 4) : (wF (V2 m) c (Proc.devRef .tc main_v12) : S4x2048x64.Idx → EReal) (ix3 b i e) =
    attn (mQ m c) (mK m c) (mV m c) (mT m c) b i e := by
  refine (congrFun (stacked (wE (V2 m) c)) (ix3 b i e)).trans ((stack_apply _ _ _ _ b i e).trans ?_)
  match b with
  | ⟨0, _⟩ => exact out1_apply m c hQ hK i e
  | ⟨1, _⟩ => exact out2_apply m c hQ hK i e
  | ⟨2, _⟩ => exact out3_apply m c hQ hK i e
  | ⟨3, _⟩ => exact out4_apply m c hQ hK i e

end Cert.KernelIdeal.Hash
-- ==== Proof.ReferenceIdeal.Rows.lean ====
module

public import proofs.«01_k».proof.Proof.Gen.ReferenceIdeal.Run
public import proofs.«01_k».proof.Proof.Attention
public import Idealize.ShloMosaic.Lib.ReduceAll

/-! # The rows the reference takes

The reference reduces each position modulo 8192 and takes the key and the value there. -/

set_option maxRecDepth 16384

@[expose] public section

noncomputable section

namespace Cert.ReferenceIdeal.Rows

open Cert.ReferenceIdeal Cert.ReferenceIdeal.Gen Cert.ReferenceIdeal.Value
open Idealize.ShloMosaic
open Cert.Attention (posn)

/-- A word's remainder by 8192 with the sign of the divisor is its remainder as a number. -/
theorem floorMod (x : BitVec 32) :
    Scalar.select (IntOp.andi (IntOp.cmpi .ne (IntOp.cmpi .slt (IntOp.remsi .host x 8192#32) 0#32) (0#1))
        (IntOp.cmpi .ne (IntOp.remsi .host x 8192#32) 0#32))
      (IntOp.addi (IntOp.remsi .host x 8192#32) 8192#32) (IntOp.remsi .host x 8192#32) = BitVec.ofNat 32 (x.toNat % 8192) := by
  have hc : ¬ IntOp.SDivCorner x 8192#32 := by simp [IntOp.SDivCorner]
  have hr : IntOp.remsi .host x 8192#32 = x.srem 8192#32 := by unfold IntOp.remsi; rw [if_neg hc]
  rw [hr]
  have ht : (x.srem 8192#32).toInt = x.toInt.tmod 8192 := by rw [BitVec.toInt_srem]; rfl
  have hx : x.toInt = x.toNat ∨ x.toInt = (x.toNat : ℤ) - 4294967296 := by
    rw [BitVec.toInt_eq_toNat_cond]; split <;> [left; right] <;> simp
  have hxl : x.toNat < 4294967296 := x.isLt
  have hm : x.toInt.tmod 8192 = ((x.toNat % 8192 : ℕ) : ℤ) ∨
      (x.toInt.tmod 8192 < 0 ∧ x.toInt.tmod 8192 + 8192 = ((x.toNat % 8192 : ℕ) : ℤ)) := by
    rcases le_or_gt 0 x.toInt with h0 | h0
    · left; rw [Int.tmod_eq_emod_of_nonneg h0]; omega
    · have e : x.toInt.tmod 8192 = -((-x.toInt) % 8192) := by
        rw [← Int.tmod_eq_emod_of_nonneg (by omega), Int.neg_tmod, neg_neg]
      rw [e]; omega
  rw [← ht] at hm
  generalize x.srem 8192#32 = R at hm
  have hR : R.toInt = R.toNat ∨ R.toInt = (R.toNat : ℤ) - 4294967296 := by
    rw [BitVec.toInt_eq_toNat_cond]; split <;> [left; right] <;> simp
  have hRl : R.toNat < 4294967296 := R.isLt
  have key : Scalar.select (IntOp.andi (IntOp.cmpi .ne (IntOp.cmpi .slt R 0#32) (0#1)) (IntOp.cmpi .ne R 0#32))
      (IntOp.addi R 8192#32) R = if R.toInt < 0 then R + 8192#32 else R := by
    by_cases h : R.toInt < 0
    · have h1 : R.slt 0#32 = true := by simp [BitVec.slt, h]
      have h2 : (R != 0#32) = true := bne_iff_ne.mpr (by rintro rfl; simp at h)
      simp [IntOp.cmpi, IntOp.andi, IntOp.addi, Scalar.select, h, h1, h2]
    · have h1 : R.slt 0#32 = false := by simp only [BitVec.slt, BitVec.toInt_zero, h, decide_false]
      simp [IntOp.cmpi, IntOp.andi, IntOp.addi, Scalar.select, h, h1]
  rw [key]
  refine BitVec.eq_of_toNat_eq ?_
  rw [BitVec.toNat_ofNat]
  split
  · rw [BitVec.toNat_add]; simp only [BitVec.toNat_ofNat]; omega
  · omega

/-- The reduced positions. -/
theorem v0_apply (V0 : Valuation τ sig (Elt Ideal)) (b : Fin 4) (y : Fin 65536) :
    res_main_v0 (F := Ideal) V0 (ix2 b y) = BitVec.ofNat 32 ((V0 (Proc.devRef .tc main_arg3) (ix2 b y)).toNat % 8192) := by
  pointwise [res_main_v0, res_main_call0_v4, res_main_call0_v2, res_main_call0_v0]
  exact floorMod _

/-- A reduced position is not negative. -/
theorem notNeg (n : ℕ) : Scalar.select (IntOp.cmpi .slt (BitVec.ofNat 32 (n % 8192)) 0#32)
    (IntOp.addi (BitVec.ofNat 32 (n % 8192)) 8192#32) (BitVec.ofNat 32 (n % 8192)) = BitVec.ofNat 32 (n % 8192) := by
  have h : (BitVec.ofNat 32 (n % 8192)).slt 0#32 = false := by
    have : (BitVec.ofNat 32 (n % 8192)).toNat = n % 8192 := by rw [BitVec.toNat_ofNat]; omega
    simp only [BitVec.slt, BitVec.toInt_zero, decide_eq_false_iff_not]
    rw [BitVec.toInt_eq_toNat_cond, this, if_pos (by omega)]; omega
  simp [IntOp.cmpi, Scalar.select, h]

theorem call1_v4_apply (V0 : Valuation τ sig (Elt Ideal)) (b : Fin 4) (y : Fin 65536) (z : Fin 1) :
    res_main_call1_v4 (F := Ideal) V0 (ix3 b y z) = BitVec.ofNat 32 ((V0 (Proc.devRef .tc main_arg3) (ix2 b y)).toNat % 8192) := by
  pointwise [res_main_call1_v4, res_main_v4]
  rw [v0_apply]; exact notNeg _

theorem call2_v4_apply (V0 : Valuation τ sig (Elt Ideal)) (b : Fin 4) (y : Fin 65536) (z : Fin 1) :
    res_main_call2_v4 (F := Ideal) V0 (ix3 b y z) = BitVec.ofNat 32 ((V0 (Proc.devRef .tc main_arg3) (ix2 b y)).toNat % 8192) := by
  pointwise [res_main_call2_v4, res_main_v6]
  rw [v0_apply]; exact notNeg _

/-- A position in range passes the test for it. -/
theorem inRange (n : ℕ) : IntOp.andi (IntOp.cmpi .sge (BitVec.ofNat 32 (n % 8192)) 0#32)
    (IntOp.cmpi .sle (BitVec.ofNat 32 (n % 8192)) 8191#32) = 1#1 := by
  have e : (BitVec.ofNat 32 (n % 8192)).toInt = ((n % 8192 : ℕ) : ℤ) := by
    have : (BitVec.ofNat 32 (n % 8192)).toNat = n % 8192 := by rw [BitVec.toNat_ofNat]; omega
    rw [BitVec.toInt_eq_toNat_cond, this, if_pos (by omega)]
  have h1 : (0#32).sle (BitVec.ofNat 32 (n % 8192)) = true := by simp only [BitVec.sle, e, BitVec.toInt_zero]; simp; omega
  have h2 : (BitVec.ofNat 32 (n % 8192)).sle 8191#32 = true := by
    have : (8191#32 : BitVec 32).toInt = 8191 := by decide
    simp only [BitVec.sle, e, this]; simp; omega
  simp [IntOp.cmpi, IntOp.andi, h1, h2]

/-- The rows taken: the operand's row at the index read, when that is in range. -/
theorem gather_apply {α : Type} (x : S4x8192x64.Idx → α) (idx : IVec S4x65536x1 32) (b : Fin 4) (y : Fin 65536) (d : Fin 64)
    (n : Fin 8192) (hn : idx (ix3 b y (0 : Fin 1)) = BitVec.ofNat 32 n.val) :
    Host.gather gather_S4x8192x64_S4x65536x1_S4x65536x64_2_1_0_0_1_2_1164 x idx (ix3 b y d) = x (ix3 b n d) := by
  have e : (BitVec.ofNat 32 n.val).toInt.toNat = n.val := by
    have : (BitVec.ofNat 32 n.val).toNat = n.val := by rw [BitVec.toNat_ofNat]; omega
    rw [BitVec.toInt_eq_toNat_cond, this, if_pos (by omega)]; rfl
  unfold Host.gather
  congr 1
  funext a
  refine Fin.ext ?_
  show gather_S4x8192x64_S4x65536x1_S4x65536x64_2_1_0_0_1_2_1164.start (ix3 b y d) idx a +
    gather_S4x8192x64_S4x65536x1_S4x65536x64_2_1_0_0_1_2_1164.batchCoord (ix3 b y d) a +
    gather_S4x8192x64_S4x65536x1_S4x65536x64_2_1_0_0_1_2_1164.offCoord (ix3 b y d) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S4x8192x64_S4x65536x1_S4x65536x64_2_1_0_0_1_2_1164.operandBatchingDims from
      List.mem_singleton.mpr rfl)]
    rfl
  · rw [GatherDims.batchCoord_eq_zero _ _ _ (fun h => by simp [gather_S4x8192x64_S4x65536x1_S4x65536x64_2_1_0_0_1_2_1164] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S4x8192x64_S4x65536x1_S4x65536x64_2_1_0_0_1_2_1164.startIndexMap from List.mem_singleton.mpr rfl)]
    have hsi : gather_S4x8192x64_S4x65536x1_S4x65536x64_2_1_0_0_1_2_1164.siIdx (ix3 b y d)
        ⟨List.idxOf (1 : Fin 3) gather_S4x8192x64_S4x65536x1_S4x65536x64_2_1_0_0_1_2_1164.startIndexMap,
        List.idxOf_lt_length_iff.2 (List.mem_singleton.mpr rfl)⟩ = ix3 b y (0 : Fin 1) := by
      funext b; refine Fin.ext ?_
      match b with
      | ⟨0, _⟩ => rfl
      | ⟨1, _⟩ => rfl
      | ⟨2, _⟩ => rfl
    rw [hsi, hn, e]
    show min n.val (8192 - 1) = n.val
    omega
  · unfold GatherDims.start
    rw [dif_neg (show ¬ (2 : Fin 3) ∈ gather_S4x8192x64_S4x65536x1_S4x65536x64_2_1_0_0_1_2_1164.startIndexMap from
        fun h => absurd (List.mem_singleton.mp h) (by decide)),
      GatherDims.batchCoord_eq_zero _ _ _ (fun h => absurd (List.mem_singleton.mp h) (by decide))]
    simp only [Nat.zero_add]
    rfl

/-- A select where the mask is set. -/
theorem select_set {s : Shape} {α : Type} (c : IVec s 1) (a b : s.Idx → α) (i : s.Idx) (h : c i = 1#1) : select c a b i = a i := by
  rw [ValueIdx.select_apply, h, ValueIdx.select_one]

/-- The rows taken, every position being in range. -/
theorem take_apply (x : S4x8192x64.Idx → EReal) (w : S4x65536x64.Idx → EReal) (idx : IVec S4x65536x1 32) (T : IVec S4x65536 32)
    (hidx : ∀ b y z, idx (ix3 b y z) = BitVec.ofNat 32 ((T (ix2 b y)).toNat % 8192)) (b : Fin 4) (y : Fin 65536) (d : Fin 64) :
    (select (broadcastInDim S4x65536x64 ![0, 1] bcast_S4x65536_S4x65536x64_0_1 (Host.reduce IntOp.andi (andi (cmpi .sge idx (broadcastInDim S4x65536x1 ![] bcast_S_S4x65536x1 (constantI S_ 32 0#32))) (cmpi .sle idx (broadcastInDim S4x65536x1 ![0, 1, 2] bcast_S1x1x1_S4x65536x1_0_1_2 (broadcastInDim S1x1x1 ![2] bcast_S1_S1x1x1_2 (constantI S1 32 8191#32))))) (constantI S_ 1 1#1) reducesTo_S4x65536x1_S4x65536_d2 h_S_)) (Host.gather gather_S4x8192x64_S4x65536x1_S4x65536x64_2_1_0_0_1_2_1164 x idx) w) (ix3 b y d) =
      x (ix3 b (posn T b y) d) := by
  refine (select_set _ _ _ _ ?_).trans (gather_apply x idx b y d (posn T b y) (hidx b y 0))
  refine Host.reduce_andi_one _ _ _ _ _ rfl fun i => ?_
  obtain ⟨b', y', z', rfl⟩ : ∃ b' y' z', i = ix3 b' y' z' := ⟨i 0, i 1, i 2, ValueIdx.eq_ix3 i⟩
  refine Eq.trans ?_ (inRange (T (ix2 b' y')).toNat)
  pointwise []
  rw [hidx]

end Cert.ReferenceIdeal.Rows
-- ==== Proof.ReferenceIdeal.Mean.lean ====
module

public import proofs.«01_k».proof.Proof.ReferenceIdeal.Rows

/-! # What the reference computes

The reference's result, element by element, as the mean of the values taken. -/

set_option maxRecDepth 16384

@[expose] public section

noncomputable section

namespace Cert.ReferenceIdeal.Rows

open Cert.ReferenceIdeal Cert.ReferenceIdeal.Gen Cert.ReferenceIdeal.Value
open Idealize.ShloMosaic
open Cert.Attention

/-- The products of queries and keys taken, at an index. -/
theorem dotQK_apply (Q : S4x2048x64.Idx → EReal) (KK : S4x65536x64.Idx → EReal) (b : Fin 4) (u : Fin 1024) (i : Fin 16) (j : Fin 64) :
    (Host.dotGeneral (F := Ideal) (φ₁ := .f32) (φ₂ := .f32) dot_S4x1024x16x64_S4x1024x64x64_S4x1024x16x64_3_3_2_2_01_01 none (shapeCast _ (shapeCast _ (broadcastInDim S8x4x1x2048x1x64 ![0, 1, 2, 3, 4, 5] bcast_S1x4x1x2048x1x64_S8x4x1x2048x1x64_0_1_2_3_4_5 (shapeCast _ Q shapeCasts_S4x2048x64_S1x4x1x2048x1x64)) shapeCasts_S8x4x1x2048x1x64_S32x2048x64) shapeCasts_S32x2048x64_S4x1024x16x64) (shapeCast _ KK shapeCasts_S4x65536x64_S4x1024x64x64)) (ix4 b u i j) =
      ∑ d : Fin 64, Q (ix3 (⟨u.val / 128 % 4, by omega⟩ : Fin 4) (⟨u.val % 128 * 16 + i.val, by omega⟩ : Fin 2048) d) *
        KK (ix3 b (⟨u.val * 64 + j.val, by omega⟩ : Fin 65536) d) := by
  pointwise []

/-- Weighted sums of values taken, at an index. -/
theorem dotPV_apply (P : S4x1024x16x64.Idx → EReal) (VV : S4x65536x64.Idx → EReal) (b : Fin 4) (h : Fin 8) (i : Fin 2048) (e : Fin 64) :
    (shapeCast _ (shapeCast _ (Host.dotGeneral (F := Ideal) (φ₁ := .f32) (φ₂ := .f32) dot_S4x1024x16x64_S4x1024x64x64_S4x1024x16x64_3_2_2_3_01_01 none P (shapeCast _ VV shapeCasts_S4x65536x64_S4x1024x64x64)) shapeCasts_S4x1024x16x64_S4x16384x64) shapeCasts_S4x16384x64_S4x8x2048x64 : S4x8x2048x64.Idx → EReal) (ix4 b h i e) =
      ∑ j : Fin 64, P (ix4 b (⟨h.val * 128 + i.val / 16, by omega⟩ : Fin 1024) (⟨i.val % 16, by omega⟩ : Fin 16) j) *
        VV (ix3 b (⟨h.val * 8192 + i.val / 16 * 64 + j.val, by omega⟩ : Fin 65536) e) := by
  pointwise []
  refine Finset.sum_congr rfl fun j _ => ?_
  congr 3
  exact Fin.ext (by show (h.val * 128 + i.val / 16) * 64 + j.val = h.val * 8192 + i.val / 16 * 64 + j.val; omega)

/-- The passes of a query, at an index. -/
theorem passes_apply (X : S4x1024x16x1.Idx → EReal) (b : Fin 4) (h : Fin 8) (i : Fin 2048) (z : Fin 1) :
    (shapeCast _ (shapeCast _ X shapeCasts_S4x1024x16x1_S4x16384) shapeCasts_S4x16384_S4x8x2048x1 : S4x8x2048x1.Idx → EReal) (ix4 b h i z) =
      X (ix4 b (⟨h.val * 128 + i.val / 16, by omega⟩ : Fin 1024) (⟨i.val % 16, by omega⟩ : Fin 16) (0 : Fin 1)) := by
  pointwise []

/-- The logarithm of the sum of a bucket's exponentials. -/
theorem lseK_apply (X : S4x1024x16x64.Idx → EReal) (M : S4x1024x16x1.Idx → EReal) (b : Fin 4) (u : Fin 1024) (i : Fin 16) (z : Fin 1) :
    (addf (F := Ideal) (φ := .f32) (Host.log (broadcastInDim S4x1024x16x1 ![0, 1, 2] bcast_S4x1024x16_S4x1024x16x1_0_1_2 (Host.reduceAdd (Host.exp (subf (F := Ideal) (φ := .f32) X (broadcastInDim S4x1024x16x64 ![0, 1, 2, 3] bcast_S4x1024x16x1_S4x1024x16x64_0_1_2_3 M))) (constant S_ .f32 0x00000000#32) reducesTo_S4x1024x16x64_S4x1024x16_d3 h_S_))) M) (ix4 b u i z) =
      Ideal.log (∑ j : Fin 64, Ideal.exp (X (ix4 b u i j) - M (ix4 b u i (0 : Fin 1)))) + M (ix4 b u i (0 : Fin 1)) := by
  pointwise []
  rw [Subsingleton.elim z 0]

/-- The logarithm of the sum of the passes' exponentials. -/
theorem lseH_apply (X : S4x8x2048x1.Idx → EReal) (M : S4x1x2048x1.Idx → EReal) (b : Fin 4) (i : Fin 2048) (y z : Fin 1) :
    (addf (F := Ideal) (φ := .f32) (Host.log (broadcastInDim S4x1x2048x1 ![0, 2, 3] bcast_S4x2048x1_S4x1x2048x1_0_2_3 (Host.reduceAdd (Host.exp (subf (F := Ideal) (φ := .f32) X (broadcastInDim S4x8x2048x1 ![0, 1, 2, 3] bcast_S4x1x2048x1_S4x8x2048x1_0_1_2_3 M))) (constant S_ .f32 0x00000000#32) reducesTo_S4x8x2048x1_S4x2048x1_d1 h_S_))) M) (ix4 b y i z) =
      Ideal.log (∑ h : Fin 8, Ideal.exp (X (ix4 b h i (0 : Fin 1)) - M (ix4 b (0 : Fin 1) i (0 : Fin 1)))) + M (ix4 b (0 : Fin 1) i (0 : Fin 1)) := by
  pointwise []
  rw [Subsingleton.elim y 0, Subsingleton.elim z 0]

/-- The sum over the passes. -/
theorem sumH_apply (O : S4x8x2048x64.Idx → EReal) (X : S4x8x2048x1.Idx → EReal) (LL : S4x1x2048x1.Idx → EReal) (b : Fin 4) (i : Fin 2048) (e : Fin 64) :
    (Host.reduceAdd (F := Ideal) (φ := .f32) (mulf (F := Ideal) (φ := .f32) O (broadcastInDim S4x8x2048x64 ![0, 1, 2, 3] bcast_S4x8x2048x1_S4x8x2048x64_0_1_2_3 (Host.exp (subf (F := Ideal) (φ := .f32) X (broadcastInDim S4x8x2048x1 ![0, 1, 2, 3] bcast_S4x1x2048x1_S4x8x2048x1_0_1_2_3 LL))))) (constant S_ .f32 0x00000000#32) reducesTo_S4x8x2048x64_S4x2048x64_d1 h_S_) (ix3 b i e) =
      ∑ h : Fin 8, O (ix4 b h i e) * Ideal.exp (X (ix4 b h i (0 : Fin 1)) - LL (ix4 b (0 : Fin 1) i (0 : Fin 1))) := by
  pointwise []

/-- The logarithm of the sum of a bucket's exponentials, of reals. -/
theorem lseK_real (X : S4x1024x16x64.Idx → EReal) (M : S4x1024x16x1.Idx → EReal) (b : Fin 4) (u : Fin 1024) (i : Fin 16)
    (f : Fin 64 → ℝ) (m : ℝ) (hX : ∀ j, X (ix4 b u i j) = f j) (hM : M (ix4 b u i (0 : Fin 1)) = m) :
    (addf (F := Ideal) (φ := .f32) (Host.log (broadcastInDim S4x1024x16x1 ![0, 1, 2] bcast_S4x1024x16_S4x1024x16x1_0_1_2 (Host.reduceAdd (Host.exp (subf (F := Ideal) (φ := .f32) X (broadcastInDim S4x1024x16x64 ![0, 1, 2, 3] bcast_S4x1024x16x1_S4x1024x16x64_0_1_2_3 M))) (constant S_ .f32 0x00000000#32) reducesTo_S4x1024x16x64_S4x1024x16_d3 h_S_))) M) (ix4 b u i (0 : Fin 1)) =
      ((Real.log (∑ j, Real.exp (f j)) : ℝ) : EReal) := by
  rw [lseK_apply, hM]
  simp only [hX]
  exact Cert.Softmax.lse_coe f m

/-- The logarithm of the sum of the passes' exponentials, of reals. -/
theorem lseH_real (X : S4x8x2048x1.Idx → EReal) (M : S4x1x2048x1.Idx → EReal) (b : Fin 4) (i : Fin 2048)
    (f : Fin 8 → ℝ) (m : ℝ) (hX : ∀ h, X (ix4 b h i (0 : Fin 1)) = f h) (hM : M (ix4 b (0 : Fin 1) i (0 : Fin 1)) = m) :
    (addf (F := Ideal) (φ := .f32) (Host.log (broadcastInDim S4x1x2048x1 ![0, 2, 3] bcast_S4x2048x1_S4x1x2048x1_0_2_3 (Host.reduceAdd (Host.exp (subf (F := Ideal) (φ := .f32) X (broadcastInDim S4x8x2048x1 ![0, 1, 2, 3] bcast_S4x1x2048x1_S4x8x2048x1_0_1_2_3 M))) (constant S_ .f32 0x00000000#32) reducesTo_S4x8x2048x1_S4x2048x1_d1 h_S_))) M) (ix4 b (0 : Fin 1) i (0 : Fin 1)) =
      ((Real.log (∑ h, Real.exp (f h)) : ℝ) : EReal) := by
  rw [lseH_apply, hM]
  simp only [hX]
  exact Cert.Softmax.lse_coe f m

/-- The sum over the passes, of reals. -/
theorem sumH_real (O : S4x8x2048x64.Idx → EReal) (X : S4x8x2048x1.Idx → EReal) (LL : S4x1x2048x1.Idx → EReal) (b : Fin 4) (i : Fin 2048) (e : Fin 64)
    (o : Fin 8 → EReal) (f : Fin 8 → ℝ) (m : ℝ) (hO : ∀ h, O (ix4 b h i e) = o h) (hX : ∀ h, X (ix4 b h i (0 : Fin 1)) = f h)
    (hL : LL (ix4 b (0 : Fin 1) i (0 : Fin 1)) = m) :
    (Host.reduceAdd (F := Ideal) (φ := .f32) (mulf (F := Ideal) (φ := .f32) O (broadcastInDim S4x8x2048x64 ![0, 1, 2, 3] bcast_S4x8x2048x1_S4x8x2048x64_0_1_2_3 (Host.exp (subf (F := Ideal) (φ := .f32) X (broadcastInDim S4x8x2048x1 ![0, 1, 2, 3] bcast_S4x1x2048x1_S4x8x2048x1_0_1_2_3 LL))))) (constant S_ .f32 0x00000000#32) reducesTo_S4x8x2048x64_S4x2048x64_d1 h_S_) (ix3 b i e) =
      ∑ h : Fin 8, o h * Ideal.exp ((f h : EReal) - (m : EReal)) := by
  rw [sumH_apply, hL]
  simp only [hO, hX]

/-- Minus infinity's bits. -/
theorem ofBits_bot : Ideal.ofBits .f32 0xFF800000#32 = ⊥ := by simp [Ideal.ofBits, Ideal.ieee]

/-- Infinity's bits. -/
theorem ofBits_top : Ideal.ofBits .f32 0x7F800000#32 = ⊤ := by simp [Ideal.ofBits, Ideal.ieee]

/-- The largest of a bucket's products. -/
theorem maxK_apply (X : S4x1024x16x64.Idx → EReal) (b : Fin 4) (u : Fin 1024) (i : Fin 16) (z : Fin 1) :
    (broadcastInDim S4x1024x16x1 ![0, 1, 2] bcast_S4x1024x16_S4x1024x16x1_0_1_2 (Host.reduce (FloatOps.maximumf (F := Ideal) (φ := .f32)) X (constant S_ .f32 0xFF800000#32) reducesTo_S4x1024x16x64_S4x1024x16_d3 h_S_)) (ix4 b u i z) =
      Finset.univ.fold max ⊥ fun j : Fin 64 => X (ix4 b u i j) := by
  pointwise []
  rw [ofBits_bot]

/-- The largest of a query's logarithms. -/
theorem maxH_apply (X : S4x8x2048x1.Idx → EReal) (b : Fin 4) (i : Fin 2048) (y z : Fin 1) :
    (broadcastInDim S4x1x2048x1 ![0, 2, 3] bcast_S4x2048x1_S4x1x2048x1_0_2_3 (Host.reduce (FloatOps.maximumf (F := Ideal) (φ := .f32)) X (constant S_ .f32 0xFF800000#32) reducesTo_S4x8x2048x1_S4x2048x1_d1 h_S_)) (ix4 b y i z) =
      Finset.univ.fold max ⊥ fun h : Fin 8 => X (ix4 b h i (0 : Fin 1)) := by
  pointwise []
  rw [ofBits_bot]

/-- A finite offset is kept. -/
theorem keepK (M : S4x1024x16x1.Idx → EReal) (x : S4x1024x16x1.Idx) (m : ℝ) (h : M x = m) :
    (select (cmpf (F := Ideal) (φ := .f32) .olt (Host.absf M) (broadcastInDim S4x1024x16x1 ![] bcast_S_S4x1024x16x1 (constant (F := Ideal) S_ .f32 0x7F800000#32))) M (broadcastInDim S4x1024x16x1 ![] bcast_S_S4x1024x16x1 (id (constant (F := Ideal) S_ .f32 0x00000000#32)))) x = m := by
  rw [← Cert.Softmax.select_finite m, ← h, ← ofBits_top]
  refine Eq.trans ?_ (congrArg (Scalar.select _ (M x)) (show Ideal.ofBits .f32 0x00000000#32 = 0 by simp [Ideal.ofBits, Ideal.ieee]))
  rfl

theorem keepH (M : S4x1x2048x1.Idx → EReal) (x : S4x1x2048x1.Idx) (m : ℝ) (h : M x = m) :
    (select (cmpf (F := Ideal) (φ := .f32) .olt (Host.absf M) (broadcastInDim S4x1x2048x1 ![] bcast_S_S4x1x2048x1 (constant (F := Ideal) S_ .f32 0x7F800000#32))) M (broadcastInDim S4x1x2048x1 ![] bcast_S_S4x1x2048x1 (id (constant (F := Ideal) S_ .f32 0x00000000#32)))) x = m := by
  rw [← Cert.Softmax.select_finite m, ← h, ← ofBits_top]
  refine Eq.trans ?_ (congrArg (Scalar.select _ (M x)) (show Ideal.ofBits .f32 0x00000000#32 = 0 by simp [Ideal.ofBits, Ideal.ieee]))
  rfl

/-- The weights, at an index. -/
theorem weights_apply (X : S4x1024x16x64.Idx → EReal) (M : S4x1024x16x1.Idx → EReal) (b : Fin 4) (u : Fin 1024) (i : Fin 16) (j : Fin 64) :
    (Host.exp (F := Ideal) (φ := .f32) (subf (F := Ideal) (φ := .f32) X (broadcastInDim S4x1024x16x64 ![0, 1, 2, 3] bcast_S4x1024x16x1_S4x1024x16x64_0_1_2_3 M))) (ix4 b u i j) =
      Ideal.exp (X (ix4 b u i j) - M (ix4 b u i (0 : Fin 1))) := by
  pointwise []

section Result

variable (V0 : Valuation τ sig (Elt Ideal))

/-- The queries, keys, values and table. -/
abbrev aQ : S4x2048x64.Idx → EReal := V0 (Proc.devRef .tc main_arg0)
abbrev aK : S4x8192x64.Idx → EReal := V0 (Proc.devRef .tc main_arg1)
abbrev aV : S4x8192x64.Idx → EReal := V0 (Proc.devRef .tc main_arg2)
abbrev aT : IVec S4x65536 32 := V0 (Proc.devRef .tc main_arg3)

/-- The bucket of a query in a pass, and the query's place in it. -/
abbrev bkt (h : Fin 8) (i : Fin 2048) : Fin 1024 := ⟨h.val * 128 + i.val / 16, by omega⟩
abbrev sub (i : Fin 2048) : Fin 16 := ⟨i.val % 16, by omega⟩

/-- The inner products. -/
theorem v11_apply (b : Fin 4) (h : Fin 8) (i : Fin 2048) (j : Fin 64) :
    res_main_v11 (F := Ideal) V0 (ix4 b (bkt h i) (sub i) j) = prod (aQ V0) (aK V0) (aT V0) b i h.val j := by
  refine (dotQK_apply _ _ b (bkt h i) (sub i) j).trans ?_
  refine Finset.sum_congr rfl fun d _ => ?_
  rw [take_apply _ _ _ (aT V0) (call1_v4_apply V0)]
  have hh := h.isLt
  have e1 : (⟨(bkt h i).val / 128 % 4, by omega⟩ : Fin 4) = ⟨h.val % 4, Nat.mod_lt _ (by decide)⟩ :=
    Fin.ext (by show (h.val * 128 + i.val / 16) / 128 % 4 = h.val % 4; omega)
  have e2 : (⟨(bkt h i).val % 128 * 16 + (sub i).val, by omega⟩ : Fin 2048) = i :=
    Fin.ext (by show (h.val * 128 + i.val / 16) % 128 * 16 + i.val % 16 = i.val; omega)
  have e3 : (⟨(bkt h i).val * 64 + j.val, by omega⟩ : Fin 65536) = place h.val i j :=
    Fin.ext (by show (h.val * 128 + i.val / 16) * 64 + j.val = h.val % 8 * 8192 + i.val / 16 * 64 + j.val; omega)
  rw [e1, e2, e3]

variable (hQ : Real (aQ V0)) (hK : Real (aK V0))

/-- A query's products as reals. -/
abbrev rS (b : Fin 4) (i : Fin 2048) (h : ℕ) (j : Fin 64) : ℝ := (prod (aQ V0) (aK V0) (aT V0) b i h j).toReal
/-- A query's logarithms of sums of exponentials. -/
abbrev rL (b : Fin 4) (i : Fin 2048) (h : ℕ) : ℝ := Real.log (∑ j, Real.exp (rS V0 b i h j))

include hQ hK in
theorem v11_real (b : Fin 4) (h : Fin 8) (i : Fin 2048) (j : Fin 64) :
    res_main_v11 (F := Ideal) V0 (ix4 b (bkt h i) (sub i) j) = ((rS V0 b i h.val j : ℝ) : EReal) :=
  (v11_apply V0 b h i j).trans (prod_coe _ _ _ hQ hK b i h.val j)

include hQ hK in
/-- The offset of a bucket is a real. -/
theorem v17_real (b : Fin 4) (h : Fin 8) (i : Fin 2048) :
    ∃ m : ℝ, res_main_v17 (F := Ideal) V0 (ix4 b (bkt h i) (sub i) (0 : Fin 1)) = (m : EReal) := by
  have h1 : ∃ m : ℝ, res_main_v13 (F := Ideal) V0 (ix4 b (bkt h i) (sub i) (0 : Fin 1)) = (m : EReal) := by
    obtain ⟨m, hm⟩ := Cert.Softmax.exists_fold_max (fun j : Fin 64 => (res_main_v11 (F := Ideal) V0 (ix4 b (bkt h i) (sub i) j) : EReal))
      (fun j => by rw [v11_real V0 hQ hK]; exact EReal.coe_ne_top _) 0 (by rw [v11_real V0 hQ hK]; exact EReal.coe_ne_bot _)
    exact ⟨m, (maxK_apply _ b (bkt h i) (sub i) 0).trans hm⟩
  obtain ⟨m, hm⟩ := h1
  exact ⟨m, keepK _ _ m hm⟩

include hQ hK in
/-- The logarithm of a bucket. -/
theorem v24_real (b : Fin 4) (h : Fin 8) (i : Fin 2048) :
    res_main_v24 (F := Ideal) V0 (ix4 b (bkt h i) (sub i) (0 : Fin 1)) = ((rL V0 b i h.val : ℝ) : EReal) := by
  obtain ⟨m, hm⟩ := v17_real V0 hQ hK b h i
  exact lseK_real _ _ b (bkt h i) (sub i) _ m (fun j => v11_real V0 hQ hK b h i j) hm

include hQ hK in
theorem v32_real (b : Fin 4) (h : Fin 8) (i : Fin 2048) :
    res_main_v32 (F := Ideal) V0 (ix4 b h i (0 : Fin 1)) = ((rL V0 b i h.val : ℝ) : EReal) :=
  (passes_apply _ b h i 0).trans (v24_real V0 hQ hK b h i)

include hQ hK in
/-- The offset of a query is a real. -/
theorem v38_real (b : Fin 4) (i : Fin 2048) :
    ∃ m : ℝ, res_main_v38 (F := Ideal) V0 (ix4 b (0 : Fin 1) i (0 : Fin 1)) = (m : EReal) := by
  have h1 : ∃ m : ℝ, res_main_v34 (F := Ideal) V0 (ix4 b (0 : Fin 1) i (0 : Fin 1)) = (m : EReal) := by
    obtain ⟨m, hm⟩ := Cert.Softmax.exists_fold_max (fun h : Fin 8 => (res_main_v32 (F := Ideal) V0 (ix4 b h i (0 : Fin 1)) : EReal))
      (fun j => by rw [v32_real V0 hQ hK]; exact EReal.coe_ne_top _) 0 (by rw [v32_real V0 hQ hK]; exact EReal.coe_ne_bot _)
    exact ⟨m, (maxH_apply _ b i 0 0).trans hm⟩
  obtain ⟨m, hm⟩ := h1
  exact ⟨m, keepH _ _ m hm⟩

include hQ hK in
/-- The reference's result. -/
theorem result_apply (b : Fin 4) (i : Fin 2048) (e : Fin 64) :
    (val2 (F := Ideal) V0 (Proc.devRef .tc main_v51) : S4x2048x64.Idx → EReal) (ix3 b i e) =
      attn (aQ V0) (aK V0) (aV V0) (aT V0) b i e := by
  refine (congrFun (val2_main_v51 (F := Ideal) V0) (ix3 b i e)).trans ?_
  obtain ⟨m, hm⟩ := v38_real V0 hQ hK b i
  refine (sumH_real _ _ _ b i e
    (fun h => ∑ j, Ideal.exp ((rS V0 b i h.val j : EReal) - (rL V0 b i h.val : EReal)) * aV V0 (ix3 b (posn (aT V0) b (place h.val i j)) e))
    (fun h => rL V0 b i h.val) _ (fun h => ?_) (fun h => v32_real V0 hQ hK b h i)
    (lseH_real _ _ b i _ m (fun h => v32_real V0 hQ hK b h i) hm)).trans
    (Cert.Softmax.mean_of_lse (rS V0 b i) (fun h j => aV V0 (ix3 b (posn (aT V0) b (place h i j)) e)) (rL V0 b i) _ (fun _ => rfl) rfl)
  refine (dotPV_apply _ _ b h i e).trans ?_
  refine Finset.sum_congr rfl fun j _ => ?_
  rw [take_apply _ _ _ (aT V0) (call2_v4_apply V0)]
  have e3 : (⟨h.val * 8192 + i.val / 16 * 64 + j.val, by omega⟩ : Fin 65536) = place h.val i j :=
    Fin.ext (by show h.val * 8192 + i.val / 16 * 64 + j.val = h.val % 8 * 8192 + i.val / 16 * 64 + j.val; omega)
  rw [e3]
  refine congrArg (fun x : EReal => x * aV V0 (ix3 b (posn (aT V0) b (place h.val i j)) e)) ?_
  refine (weights_apply _ _ b (bkt h i) (sub i) j).trans ?_
  rw [v11_real V0 hQ hK, v24_real V0 hQ hK]

end Result

end Cert.ReferenceIdeal.Rows
-- ==== Proof.Finite.lean ====
module

public import proofs.«01_k».proof.Pre_finite
public import proofs.«01_k».proof.Proof.Attention
public import Idealize.ShloMosaic.Lib.ReduceAll
public import Idealize.ShloMosaic.Lib.IdealHost

/-! # The precondition

Where the precondition's single bit is one, all queries and keys are reals. -/

@[expose] public section

namespace Cert.Finite

open Idealize.ShloMosaic Cert.Pre_finite

/-- The precondition's side conditions. -/
theorem facts : Cert.Pre_finite.Facts where
  bcast_S_S4x2048x64 := by decide
  reducesTo_S4x2048x64_S_d0_1_2 := by decide
  h_S_ := by decide
  bcast_S_S4x8192x64 := by decide
  reducesTo_S4x8192x64_S_d0_1_2 := by decide

/-- Infinity's bits. -/
theorem ofBits_top : Ideal.ofBits .f32 0x7F800000#32 = ⊤ := by simp [Ideal.ofBits, Ideal.ieee]

/-- A number below infinity in size is a real. -/
theorem real_of_lt (x : EReal) (h : Ideal.cmp .olt (max x (-x)) ⊤ = 1#1) : x ≠ ⊥ ∧ x ≠ ⊤ := by
  constructor
  · rintro rfl; simp [Ideal.cmp] at h
  · rintro rfl; simp [Ideal.cmp] at h

section

variable [Cert.Pre_finite.Facts]

instance : Subsingleton S_.Idx := ⟨fun _ _ => funext fun a => a.elim0⟩

/-- The precondition read at the queries and keys. -/
theorem finite_real (q : FVec Ideal S4x2048x64 .f32) (k v : FVec Ideal S4x8192x64 .f32) (t : IVec S4x65536 32)
    (h : Cert.Pre_finite.fn (F := Ideal) q k v t = fun _ => 1#1) : Cert.Attention.Real q ∧ Cert.Attention.Real k := by
  obtain ⟨h1, h2⟩ := IntOp.andi_eq_one.1 (congrFun h (fun a => a.elim0))
  refine ⟨fun x => real_of_lt _ ?_, fun x => real_of_lt _ ?_⟩
  · rw [← ofBits_top]
    exact Host.reduce_andi_all _ _ _ _ _ h1 x
  · rw [← ofBits_top]
    exact Host.reduce_andi_all _ _ _ _ _ h2 x

end

end Cert.Finite
-- ==== Proof.lean ====
/-
  The proof of the certificate's claim: the programs' runs, each read at the arguments, at the result and at the
  semaphores.
-/
module

public import proofs.«01_k».proof.Defs
public import proofs.«01_k».proof.Proof.Kernel.Frame
public import proofs.«01_k».proof.Proof.KernelIdeal.Value
public import proofs.«01_k».proof.Proof.ReferenceIdeal.Mean
public import proofs.«01_k».proof.Proof.Finite
public import Idealize.ShloMosaic.Adequacy
public import Idealize.ShloMosaic.Init

@[expose] public section

noncomputable section

namespace Cert.Proof

open Idealize.ShloMosaic Idealize.SL.Sem

/-- The kernel on machine words runs to the end with its arguments kept and every semaphore at zero. -/
theorem frame_kernel : Cert.quiescent_Kernel := fun m ρ _ =>
  (θ_run Cert.Kernel.defs _ _).mono (fun _ h => ⟨fun c => (h.1 c).2, h.2⟩) (Cert.Kernel.Hash.run_args (F := Bits) m ρ)

/-- The idealized kernel likewise. -/
theorem frame_kernelIdeal : Cert.quiescent_KernelIdeal := fun m ρ _ =>
  (θ_run Cert.KernelIdeal.defs _ _).mono (fun _ h => ⟨fun c => (h.1 c).2, h.2⟩) (Cert.KernelIdeal.Hash.run_args (F := Ideal) m ρ)

/-- The idealized reference likewise: it declares no semaphore. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From memories agreeing on the arguments, the queries and keys finite, the kernel and the reference end with equal results. -/
theorem equal_results : Cert.algebraic_KernelIdeal_ReferenceIdeal_pre_finite (hPre_finite := Cert.Finite.facts) := by
  intro m g m' g' hpre hargs
  refine ⟨fun c => Cert.KernelIdeal.Hash.wF (Cert.KernelIdeal.Hash.V2 m) c (Proc.devRef .tc Cert.KernelIdeal.main_v12),
    (θ_run Cert.KernelIdeal.defs _ _).mono (fun _ h => h.1) (Cert.KernelIdeal.Hash.run_args (F := Ideal) m g),
    (θ_run Cert.ReferenceIdeal.defs _ _).mono (fun r h c => ⟨?_, (h c).2⟩) (Cert.ReferenceIdeal.Value.run (F := Ideal) m' g')⟩
  have hf := letI := Cert.Finite.facts; Cert.Finite.finite_real _ _ _ _ (hpre c)
  obtain ⟨e0, e1, e2, e3⟩ := hargs c
  have hQ : Cert.Attention.Real (Cert.ReferenceIdeal.Rows.aQ (StableHlo.launchContents m' c)) := by
    rw [show Cert.ReferenceIdeal.Rows.aQ (StableHlo.launchContents m' c) = _ from e0]; exact hf.1
  have hK : Cert.Attention.Real (Cert.ReferenceIdeal.Rows.aK (StableHlo.launchContents m' c)) := by
    rw [show Cert.ReferenceIdeal.Rows.aK (StableHlo.launchContents m' c) = _ from e1]; exact hf.2
  refine ((h c).1.trans (Cert.ReferenceIdeal.Value.val2_main_v51 (StableHlo.launchContents m' c)).symm).trans ?_
  funext x
  obtain ⟨b, i, e, rfl⟩ : ∃ (b : Fin 4) (i : Fin 2048) (e : Fin 64), x = ix3 b i e := ⟨x 0, x 1, x 2, ValueIdx.eq_ix3 x⟩
  refine (Cert.ReferenceIdeal.Rows.result_apply _ hQ hK b i e).trans ?_
  refine Eq.trans ?_ (Cert.KernelIdeal.Hash.result_apply m c hf.1 hf.2 i e b).symm
  rw [show Cert.ReferenceIdeal.Rows.aQ (StableHlo.launchContents m' c) = _ from e0,
    show Cert.ReferenceIdeal.Rows.aK (StableHlo.launchContents m' c) = _ from e1,
    show Cert.ReferenceIdeal.Rows.aV (StableHlo.launchContents m' c) = _ from e2,
    show Cert.ReferenceIdeal.Rows.aT (StableHlo.launchContents m' c) = _ from e3]

/-- Everything claimed. -/
theorem claim : Cert.Claim := ⟨Cert.Kernel.Gen.facts, Cert.KernelIdeal.Gen.facts, Cert.ReferenceIdeal.Gen.facts, Cert.Finite.facts,
  frame_kernel, frame_kernelIdeal, fun m ρ _ => frame_kernelIdeal m ρ trivial, frame_referenceIdeal,
  fun m ρ _ => frame_referenceIdeal m ρ trivial, trivial, equal_results⟩

end Cert.Proof

end
